-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_router_finite_KernelIdeal [hPre_router_finite_KernelIdeal : Cert.Pre_router_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_router_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_finite_ReferenceIdeal [hPre_router_finite_ReferenceIdeal : Cert.Pre_router_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_router_finite_KernelIdeal [hKernelIdeal : Cert.KernelIdeal.Facts] [hPre_router_finite_KernelIdeal : Cert.Pre_router_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_router_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_router_finite_ReferenceIdeal [hReferenceIdeal : Cert.ReferenceIdeal.Facts] [hPre_router_finite_ReferenceIdeal : Cert.Pre_router_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_router_finite_KernelIdeal [hKernelIdeal : Cert.KernelIdeal.Facts] [hReferenceIdeal : Cert.ReferenceIdeal.Facts] [hPre_router_finite_KernelIdeal : Cert.Pre_router_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_router_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![16, 256, 512]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v189)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v189) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_router_finite_KernelIdeal : Cert.Pre_router_finite_KernelIdeal.Facts) (hPre_router_finite_ReferenceIdeal : Cert.Pre_router_finite_ReferenceIdeal.Facts),
    quiescent_Kernel (hKernel := hKernel)
    ∧ quiescent_KernelIdeal (hKernelIdeal := hKernelIdeal)
    ∧ quiescent_KernelIdeal_pre_router_finite_KernelIdeal (hKernelIdeal := hKernelIdeal) (hPre_router_finite_KernelIdeal := hPre_router_finite_KernelIdeal)
    ∧ quiescent_ReferenceIdeal (hReferenceIdeal := hReferenceIdeal)
    ∧ quiescent_ReferenceIdeal_pre_router_finite_ReferenceIdeal (hReferenceIdeal := hReferenceIdeal) (hPre_router_finite_ReferenceIdeal := hPre_router_finite_ReferenceIdeal)
    ∧ preserves_Kernel_KernelIdeal
    ∧ algebraic_KernelIdeal_ReferenceIdeal_pre_router_finite_KernelIdeal (hKernelIdeal := hKernelIdeal) (hReferenceIdeal := hReferenceIdeal) (hPre_router_finite_KernelIdeal := hPre_router_finite_KernelIdeal)
-- ==== Pre_router_finite_KernelIdeal.lean ====
abbrev S1024x256 : Shape := ⟨2, ![1024, 256]⟩
abbrev S256x16 : Shape := ⟨2, ![256, 16]⟩
abbrev S1024x1 : Shape := ⟨2, ![1024, 1]⟩
abbrev S4x256x512 : Shape := ⟨3, ![4, 256, 512]⟩
abbrev S256x512 : Shape := ⟨2, ![256, 512]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_

variable [Facts]

def fn {F : FTy → Type} [FloatOps F] (main_arg0 : FVec F S1024x256 .bf16) (main_arg1 : FVec F S256x16 .bf16) (main_arg2 : IVec S1024x1 32) (main_arg3 : FVec F S4x256x512 .bf16) (main_arg4 : FVec F S256x512 .bf16) : IVec S_ 1 :=
  let main_v0 : FVec F S1024x256 .bf16 := Host.absf main_arg0
  let main_cst : FVec F S_ .bf16 := constant S_ .bf16 0x7F80#16
  let main_v1 : FVec F S1024x256 .bf16 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S256x16 .bf16 := Host.absf main_arg1
  let main_cst_0 : FVec F S_ .bf16 := constant S_ .bf16 0x7F80#16
  let main_v5 : FVec F S256x16 .bf16 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  main_v8
-- ==== Pre_router_finite_ReferenceIdeal.lean ====
abbrev S1024x256 : Shape := ⟨2, ![1024, 256]⟩
abbrev S256x16 : Shape := ⟨2, ![256, 16]⟩
abbrev S1024x1 : Shape := ⟨2, ![1024, 1]⟩
abbrev S16x256x512 : Shape := ⟨3, ![16, 256, 512]⟩
abbrev S256x512 : Shape := ⟨2, ![256, 512]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_

variable [Facts]

def fn {F : FTy → Type} [FloatOps F] (main_arg0 : FVec F S1024x256 .bf16) (main_arg1 : FVec F S256x16 .bf16) (main_arg2 : IVec S1024x1 32) (main_arg3 : FVec F S16x256x512 .bf16) (main_arg4 : FVec F S256x512 .bf16) : IVec S_ 1 :=
  let main_v0 : FVec F S1024x256 .bf16 := Host.absf main_arg0
  let main_cst : FVec F S_ .bf16 := constant S_ .bf16 0x7F80#16
  let main_v1 : FVec F S1024x256 .bf16 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S256x16 .bf16 := Host.absf main_arg1
  let main_cst_0 : FVec F S_ .bf16 := constant S_ .bf16 0x7F80#16
  let main_v5 : FVec F S256x16 .bf16 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  main_v8
-- ==== Kernel.lean ====
abbrev S1024x256 : Shape := ⟨2, ![1024, 256]⟩
abbrev S256x16 : Shape := ⟨2, ![256, 16]⟩
abbrev S1024x1 : Shape := ⟨2, ![1024, 1]⟩
abbrev S4x256x512 : Shape := ⟨3, ![4, 256, 512]⟩
abbrev S256x512 : Shape := ⟨2, ![256, 512]⟩
abbrev S1024x512 : Shape := ⟨2, ![1024, 512]⟩
abbrev S1024x1280 : Shape := ⟨2, ![1024, 1280]⟩
abbrev S4x4x64x512 : Shape := ⟨4, ![4, 4, 64, 512]⟩
abbrev S4x64x512 : Shape := ⟨3, ![4, 64, 512]⟩
abbrev S4x4 : Shape := ⟨2, ![4, 4]⟩
abbrev S_ : Shape := ⟨0, ![]⟩
abbrev S1024x16 : Shape := ⟨2, ![1024, 16]⟩
abbrev S1024 : Shape := ⟨1, ![1024]⟩
abbrev S1x256x512 : Shape := ⟨3, ![1, 256, 512]⟩
abbrev S1280x512 : Shape := ⟨2, ![1280, 512]⟩
abbrev S64x1280 : Shape := ⟨2, ![64, 1280]⟩
abbrev S64x512 : Shape := ⟨2, ![64, 512]⟩
abbrev S1x1x64x512 : Shape := ⟨4, ![1, 1, 64, 512]⟩
abbrev S1x1 : Shape := ⟨2, ![1, 1]⟩
abbrev S1x64x512 : Shape := ⟨3, ![1, 64, 512]⟩

abbrev nBuf : Space → Nat
  | .hbm => 6
  | .vmem => 12
  | .smem => 0
  | _ => 0

abbrev bufTy : (tb : Table) → Fin (tcTables nBuf tb) → BufTy
  | .hbm, ⟨0, _⟩ => ⟨S1024x256, .bf16⟩
  | .hbm, ⟨1, _⟩ => ⟨S256x16, .bf16⟩
  | .hbm, ⟨2, _⟩ => ⟨S1024x1, .i32⟩
  | .hbm, ⟨3, _⟩ => ⟨S4x256x512, .bf16⟩
  | .hbm, ⟨4, _⟩ => ⟨S256x512, .bf16⟩
  | .hbm, ⟨5, _⟩ => ⟨S1024x512, .f32⟩
  | .local _ .vmem, ⟨0, _⟩ => ⟨S1024x256, .bf16⟩
  | .local _ .vmem, ⟨1, _⟩ => ⟨S256x16, .bf16⟩
  | .local _ .vmem, ⟨2, _⟩ => ⟨S1024x1, .i32⟩
  | .local _ .vmem, ⟨3, _⟩ => ⟨S4x256x512, .bf16⟩
  | .local _ .vmem, ⟨4, _⟩ => ⟨S256x512, .bf16⟩
  | .local _ .vmem, ⟨5, _⟩ => ⟨S1024x512, .f32⟩
  | .local _ .vmem, ⟨6, _⟩ => ⟨S1024x1280, .bf16⟩
  | .local _ .vmem, ⟨7, _⟩ => ⟨S4x4x64x512, .bf16⟩
  | .local _ .vmem, ⟨8, _⟩ => ⟨S256x512, .f32⟩
  | .local _ .vmem, ⟨9, _⟩ => ⟨S4x64x512, .bf16⟩
  | .local _ .vmem, ⟨10, _⟩ => ⟨S4x4x64x512, .bf16⟩
  | .local _ .vmem, ⟨11, _⟩ => ⟨S4x4x64x512, .bf16⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_53 : BitVec 32 := 0#32
  let v97 : BitVec 1 := Scalar.cmpi .ne v2 c0_i32_53
  let v98 : BitVec 32 := Scalar.extui v97
  let c0_i32_54 : BitVec 32 := 0#32
  let v99 : BitVec 1 := Scalar.cmpi .ne v98 c0_i32_54
  v99

def k0_off1 (d0 : Dev nD) : Fin 2 → Nat :=
  let c0_i32_303 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![0, v2.toNat]
def k0_off2 (d0 : Dev nD) : Fin 4 → Nat :=
  let c0_i32_302 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_309 : BitVec 32 := 0#32
  let c0_i32_310 : BitVec 32 := 0#32
  ![0, v2.toNat, 0, 0]
def k0_dev4 : Nat :=
  let c0_i32_308 : BitVec 32 := 0#32
  let c0_i32_306 : BitVec 32 := 0#32
  let c1_i32_307 : BitVec 32 := 1#32
  let v440 : BitVec 32 := Scalar.muli c0_i32_306 c1_i32_307
  let v441 : BitVec 32 := Scalar.addi c0_i32_308 v440
  v441.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_59 : BitVec 32 := 1#32
  let v105 : BitVec 1 := Scalar.cmpi .ne v2 c1_i32_59
  let v106 : BitVec 32 := Scalar.extui v105
  let c0_i32_60 : BitVec 32 := 0#32
  let v107 : BitVec 1 := Scalar.cmpi .ne v106 c0_i32_60
  v107

def k0_off3 (d0 : Dev nD) : Fin 2 → Nat :=
  let c0_i32_303 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![0, v2.toNat]
def k0_off4 (d0 : Dev nD) : Fin 4 → Nat :=
  let c0_i32_302 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_309 : BitVec 32 := 0#32
  let c0_i32_310 : BitVec 32 := 0#32
  ![0, v2.toNat, 0, 0]
def k0_dev5 : Nat :=
  let c0_i32_308 : BitVec 32 := 0#32
  let c1_i32_306 : BitVec 32 := 1#32
  let c1_i32_307 : BitVec 32 := 1#32
  let v440 : BitVec 32 := Scalar.muli c1_i32_306 c1_i32_307
  let v441 : BitVec 32 := Scalar.addi c0_i32_308 v440
  v441.toNat
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_65 : BitVec 32 := 2#32
  let v113 : BitVec 1 := Scalar.cmpi .ne v2 c2_i32_65
  let v114 : BitVec 32 := Scalar.extui v113
  let c0_i32_66 : BitVec 32 := 0#32
  let v115 : BitVec 1 := Scalar.cmpi .ne v114 c0_i32_66
  v115

def k0_off5 (d0 : Dev nD) : Fin 2 → Nat :=
  let c0_i32_303 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![0, v2.toNat]
def k0_off6 (d0 : Dev nD) : Fin 4 → Nat :=
  let c0_i32_302 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_309 : BitVec 32 := 0#32
  let c0_i32_310 : BitVec 32 := 0#32
  ![0, v2.toNat, 0, 0]
def k0_dev6 : Nat :=
  let c0_i32_308 : BitVec 32 := 0#32
  let c2_i32_306 : BitVec 32 := 2#32
  let c1_i32_307 : BitVec 32 := 1#32
  let v440 : BitVec 32 := Scalar.muli c2_i32_306 c1_i32_307
  let v441 : BitVec 32 := Scalar.addi c0_i32_308 v440
  v441.toNat
def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_71 : BitVec 32 := 3#32
  let v121 : BitVec 1 := Scalar.cmpi .ne v2 c3_i32_71
  let v122 : BitVec 32 := Scalar.extui v121
  let c0_i32_72 : BitVec 32 := 0#32
  let v123 : BitVec 1 := Scalar.cmpi .ne v122 c0_i32_72
  v123

def k0_off7 (d0 : Dev nD) : Fin 2 → Nat :=
  let c0_i32_303 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![0, v2.toNat]
def k0_off8 (d0 : Dev nD) : Fin 4 → Nat :=
  let c0_i32_302 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_309 : BitVec 32 := 0#32
  let c0_i32_310 : BitVec 32 := 0#32
  ![0, v2.toNat, 0, 0]
def k0_dev7 : Nat :=
  let c0_i32_308 : BitVec 32 := 0#32
  let c3_i32_306 : BitVec 32 := 3#32
  let c1_i32_307 : BitVec 32 := 1#32
  let v440 : BitVec 32 := Scalar.muli c3_i32_306 c1_i32_307
  let v441 : BitVec 32 := Scalar.addi c0_i32_308 v440
  v441.toNat
def k0_cond10 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_77 : BitVec 32 := 0#32
  let v129 : BitVec 1 := Scalar.cmpi .ne v2 c0_i32_77
  let v130 : BitVec 32 := Scalar.extui v129
  let c0_i32_78 : BitVec 32 := 0#32
  let v131 : BitVec 1 := Scalar.cmpi .ne v130 c0_i32_78
  v131

def k0_off9 (d0 : Dev nD) : Fin 2 → Nat :=
  let c1_i32_303 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![1, v2.toNat]
def k0_off10 (d0 : Dev nD) : Fin 4 → Nat :=
  let c1_i32_302 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_309 : BitVec 32 := 0#32
  let c0_i32_310 : BitVec 32 := 0#32
  ![1, v2.toNat, 0, 0]
def k0_dev8 : Nat :=
  let c0_i32_308 : BitVec 32 := 0#32
  let c0_i32_306 : BitVec 32 := 0#32
  let c1_i32_307 : BitVec 32 := 1#32
  let v440 : BitVec 32 := Scalar.muli c0_i32_306 c1_i32_307
  let v441 : BitVec 32 := Scalar.addi c0_i32_308 v440
  v441.toNat
def k0_cond12 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_83 : BitVec 32 := 1#32
  let v137 : BitVec 1 := Scalar.cmpi .ne v2 c1_i32_83
  let v138 : BitVec 32 := Scalar.extui v137
  let c0_i32_84 : BitVec 32 := 0#32
  let v139 : BitVec 1 := Scalar.cmpi .ne v138 c0_i32_84
  v139

def k0_off11 (d0 : Dev nD) : Fin 2 → Nat :=
  let c1_i32_303 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![1, v2.toNat]
def k0_off12 (d0 : Dev nD) : Fin 4 → Nat :=
  let c1_i32_302 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_309 : BitVec 32 := 0#32
  let c0_i32_310 : BitVec 32 := 0#32
  ![1, v2.toNat, 0, 0]
def k0_dev9 : Nat :=
  let c0_i32_308 : BitVec 32 := 0#32
  let c1_i32_306 : BitVec 32 := 1#32
  let c1_i32_307 : BitVec 32 := 1#32
  let v440 : BitVec 32 := Scalar.muli c1_i32_306 c1_i32_307
  let v441 : BitVec 32 := Scalar.addi c0_i32_308 v440
  v441.toNat
def k0_cond14 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_89 : BitVec 32 := 2#32
  let v145 : BitVec 1 := Scalar.cmpi .ne v2 c2_i32_89
  let v146 : BitVec 32 := Scalar.extui v145
  let c0_i32_90 : BitVec 32 := 0#32
  let v147 : BitVec 1 := Scalar.cmpi .ne v146 c0_i32_90
  v147

def k0_off13 (d0 : Dev nD) : Fin 2 → Nat :=
  let c1_i32_303 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![1, v2.toNat]
def k0_off14 (d0 : Dev nD) : Fin 4 → Nat :=
  let c1_i32_302 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_309 : BitVec 32 := 0#32
  let c0_i32_310 : BitVec 32 := 0#32
  ![1, v2.toNat, 0, 0]
def k0_dev10 : Nat :=
  let c0_i32_308 : BitVec 32 := 0#32
  let c2_i32_306 : BitVec 32 := 2#32
  let c1_i32_307 : BitVec 32 := 1#32
  let v440 : BitVec 32 := Scalar.muli c2_i32_306 c1_i32_307
  let v441 : BitVec 32 := Scalar.addi c0_i32_308 v440
  v441.toNat
def k0_cond16 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_95 : BitVec 32 := 3#32
  let v153 : BitVec 1 := Scalar.cmpi .ne v2 c3_i32_95
  let v154 : BitVec 32 := Scalar.extui v153
  let c0_i32_96 : BitVec 32 := 0#32
  let v155 : BitVec 1 := Scalar.cmpi .ne v154 c0_i32_96
  v155

def k0_off15 (d0 : Dev nD) : Fin 2 → Nat :=
  let c1_i32_303 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![1, v2.toNat]
def k0_off16 (d0 : Dev nD) : Fin 4 → Nat :=
  let c1_i32_302 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_309 : BitVec 32 := 0#32
  let c0_i32_310 : BitVec 32 := 0#32
  ![1, v2.toNat, 0, 0]
def k0_dev11 : Nat :=
  let c0_i32_308 : BitVec 32 := 0#32
  let c3_i32_306 : BitVec 32 := 3#32
  let c1_i32_307 : BitVec 32 := 1#32
  let v440 : BitVec 32 := Scalar.muli c3_i32_306 c1_i32_307
  let v441 : BitVec 32 := Scalar.addi c0_i32_308 v440
  v441.toNat
def k0_cond18 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_101 : BitVec 32 := 0#32
  let v161 : BitVec 1 := Scalar.cmpi .ne v2 c0_i32_101
  let v162 : BitVec 32 := Scalar.extui v161
  let c0_i32_102 : BitVec 32 := 0#32
  let v163 : BitVec 1 := Scalar.cmpi .ne v162 c0_i32_102
  v163

def k0_off17 (d0 : Dev nD) : Fin 2 → Nat :=
  let c2_i32_303 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![2, v2.toNat]
def k0_off18 (d0 : Dev nD) : Fin 4 → Nat :=
  let c2_i32_302 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_309 : BitVec 32 := 0#32
  let c0_i32_310 : BitVec 32 := 0#32
  ![2, v2.toNat, 0, 0]
def k0_dev12 : Nat :=
  let c0_i32_308 : BitVec 32 := 0#32
  let c0_i32_306 : BitVec 32 := 0#32
  let c1_i32_307 : BitVec 32 := 1#32
  let v440 : BitVec 32 := Scalar.muli c0_i32_306 c1_i32_307
  let v441 : BitVec 32 := Scalar.addi c0_i32_308 v440
  v441.toNat
def k0_cond20 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_107 : BitVec 32 := 1#32
  let v169 : BitVec 1 := Scalar.cmpi .ne v2 c1_i32_107
  let v170 : BitVec 32 := Scalar.extui v169
  let c0_i32_108 : BitVec 32 := 0#32
  let v171 : BitVec 1 := Scalar.cmpi .ne v170 c0_i32_108
  v171

def k0_off19 (d0 : Dev nD) : Fin 2 → Nat :=
  let c2_i32_303 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![2, v2.toNat]
def k0_off20 (d0 : Dev nD) : Fin 4 → Nat :=
  let c2_i32_302 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_309 : BitVec 32 := 0#32
  let c0_i32_310 : BitVec 32 := 0#32
  ![2, v2.toNat, 0, 0]
def k0_dev13 : Nat :=
  let c0_i32_308 : BitVec 32 := 0#32
  let c1_i32_306 : BitVec 32 := 1#32
  let c1_i32_307 : BitVec 32 := 1#32
  let v440 : BitVec 32 := Scalar.muli c1_i32_306 c1_i32_307
  let v441 : BitVec 32 := Scalar.addi c0_i32_308 v440
  v441.toNat
def k0_cond22 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_113 : BitVec 32 := 2#32
  let v177 : BitVec 1 := Scalar.cmpi .ne v2 c2_i32_113
  let v178 : BitVec 32 := Scalar.extui v177
  let c0_i32_114 : BitVec 32 := 0#32
  let v179 : BitVec 1 := Scalar.cmpi .ne v178 c0_i32_114
  v179

def k0_off21 (d0 : Dev nD) : Fin 2 → Nat :=
  let c2_i32_303 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![2, v2.toNat]
def k0_off22 (d0 : Dev nD) : Fin 4 → Nat :=
  let c2_i32_302 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_309 : BitVec 32 := 0#32
  let c0_i32_310 : BitVec 32 := 0#32
  ![2, v2.toNat, 0, 0]
def k0_dev14 : Nat :=
  let c0_i32_308 : BitVec 32 := 0#32
  let c2_i32_306 : BitVec 32 := 2#32
  let c1_i32_307 : BitVec 32 := 1#32
  let v440 : BitVec 32 := Scalar.muli c2_i32_306 c1_i32_307
  let v441 : BitVec 32 := Scalar.addi c0_i32_308 v440
  v441.toNat
def k0_cond24 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_119 : BitVec 32 := 3#32
  let v185 : BitVec 1 := Scalar.cmpi .ne v2 c3_i32_119
  let v186 : BitVec 32 := Scalar.extui v185
  let c0_i32_120 : BitVec 32 := 0#32
  let v187 : BitVec 1 := Scalar.cmpi .ne v186 c0_i32_120
  v187

def k0_off23 (d0 : Dev nD) : Fin 2 → Nat :=
  let c2_i32_303 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![2, v2.toNat]
def k0_off24 (d0 : Dev nD) : Fin 4 → Nat :=
  let c2_i32_302 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_309 : BitVec 32 := 0#32
  let c0_i32_310 : BitVec 32 := 0#32
  ![2, v2.toNat, 0, 0]
def k0_dev15 : Nat :=
  let c0_i32_308 : BitVec 32 := 0#32
  let c3_i32_306 : BitVec 32 := 3#32
  let c1_i32_307 : BitVec 32 := 1#32
  let v440 : BitVec 32 := Scalar.muli c3_i32_306 c1_i32_307
  let v441 : BitVec 32 := Scalar.addi c0_i32_308 v440
  v441.toNat
def k0_cond26 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_125 : BitVec 32 := 0#32
  let v193 : BitVec 1 := Scalar.cmpi .ne v2 c0_i32_125
  let v194 : BitVec 32 := Scalar.extui v193
  let c0_i32_126 : BitVec 32 := 0#32
  let v195 : BitVec 1 := Scalar.cmpi .ne v194 c0_i32_126
  v195

def k0_off25 (d0 : Dev nD) : Fin 2 → Nat :=
  let c3_i32_303 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![3, v2.toNat]
def k0_off26 (d0 : Dev nD) : Fin 4 → Nat :=
  let c3_i32_302 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_309 : BitVec 32 := 0#32
  let c0_i32_310 : BitVec 32 := 0#32
  ![3, v2.toNat, 0, 0]
def k0_dev16 : Nat :=
  let c0_i32_308 : BitVec 32 := 0#32
  let c0_i32_306 : BitVec 32 := 0#32
  let c1_i32_307 : BitVec 32 := 1#32
  let v440 : BitVec 32 := Scalar.muli c0_i32_306 c1_i32_307
  let v441 : BitVec 32 := Scalar.addi c0_i32_308 v440
  v441.toNat
def k0_cond28 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_131 : BitVec 32 := 1#32
  let v201 : BitVec 1 := Scalar.cmpi .ne v2 c1_i32_131
  let v202 : BitVec 32 := Scalar.extui v201
  let c0_i32_132 : BitVec 32 := 0#32
  let v203 : BitVec 1 := Scalar.cmpi .ne v202 c0_i32_132
  v203

def k0_off27 (d0 : Dev nD) : Fin 2 → Nat :=
  let c3_i32_303 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![3, v2.toNat]
def k0_off28 (d0 : Dev nD) : Fin 4 → Nat :=
  let c3_i32_302 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_309 : BitVec 32 := 0#32
  let c0_i32_310 : BitVec 32 := 0#32
  ![3, v2.toNat, 0, 0]
def k0_dev17 : Nat :=
  let c0_i32_308 : BitVec 32 := 0#32
  let c1_i32_306 : BitVec 32 := 1#32
  let c1_i32_307 : BitVec 32 := 1#32
  let v440 : BitVec 32 := Scalar.muli c1_i32_306 c1_i32_307
  let v441 : BitVec 32 := Scalar.addi c0_i32_308 v440
  v441.toNat
def k0_cond30 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_137 : BitVec 32 := 2#32
  let v209 : BitVec 1 := Scalar.cmpi .ne v2 c2_i32_137
  let v210 : BitVec 32 := Scalar.extui v209
  let c0_i32_138 : BitVec 32 := 0#32
  let v211 : BitVec 1 := Scalar.cmpi .ne v210 c0_i32_138
  v211

def k0_off29 (d0 : Dev nD) : Fin 2 → Nat :=
  let c3_i32_303 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![3, v2.toNat]
def k0_off30 (d0 : Dev nD) : Fin 4 → Nat :=
  let c3_i32_302 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_309 : BitVec 32 := 0#32
  let c0_i32_310 : BitVec 32 := 0#32
  ![3, v2.toNat, 0, 0]
def k0_dev18 : Nat :=
  let c0_i32_308 : BitVec 32 := 0#32
  let c2_i32_306 : BitVec 32 := 2#32
  let c1_i32_307 : BitVec 32 := 1#32
  let v440 : BitVec 32 := Scalar.muli c2_i32_306 c1_i32_307
  let v441 : BitVec 32 := Scalar.addi c0_i32_308 v440
  v441.toNat
def k0_cond32 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_143 : BitVec 32 := 3#32
  let v217 : BitVec 1 := Scalar.cmpi .ne v2 c3_i32_143
  let v218 : BitVec 32 := Scalar.extui v217
  let c0_i32_144 : BitVec 32 := 0#32
  let v219 : BitVec 1 := Scalar.cmpi .ne v218 c0_i32_144
  v219

def k0_off31 (d0 : Dev nD) : Fin 2 → Nat :=
  let c3_i32_303 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![3, v2.toNat]
def k0_off32 (d0 : Dev nD) : Fin 4 → Nat :=
  let c3_i32_302 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_309 : BitVec 32 := 0#32
  let c0_i32_310 : BitVec 32 := 0#32
  ![3, v2.toNat, 0, 0]
def k0_dev19 : Nat :=
  let c0_i32_308 : BitVec 32 := 0#32
  let c3_i32_306 : BitVec 32 := 3#32
  let c1_i32_307 : BitVec 32 := 1#32
  let v440 : BitVec 32 := Scalar.muli c3_i32_306 c1_i32_307
  let v441 : BitVec 32 := Scalar.addi c0_i32_308 v440
  v441.toNat
def k0_cond37 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_158 : BitVec 32 := 0#32
  let v237 : BitVec 1 := Scalar.cmpi .ne v2 c0_i32_158
  let v238 : BitVec 32 := Scalar.extui v237
  let c0_i32_159 : BitVec 32 := 0#32
  let v239 : BitVec 1 := Scalar.cmpi .ne v238 c0_i32_159
  v239

def k0_off33 (d0 : Dev nD) : Fin 2 → Nat :=
  let c0_i32_298 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![0, v2.toNat]
def k0_off34 (d0 : Dev nD) : Fin 4 → Nat :=
  let c0_i32_297 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_304 : BitVec 32 := 0#32
  let c0_i32_305 : BitVec 32 := 0#32
  ![0, v2.toNat, 0, 0]
def k0_dev20 : Nat :=
  let c0_i32_303 : BitVec 32 := 0#32
  let c0_i32_301 : BitVec 32 := 0#32
  let c1_i32_302 : BitVec 32 := 1#32
  let v436 : BitVec 32 := Scalar.muli c0_i32_301 c1_i32_302
  let v437 : BitVec 32 := Scalar.addi c0_i32_303 v436
  v437.toNat
def k0_cond38 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_160 : BitVec 32 := 1#32
  let v240 : BitVec 1 := Scalar.cmpi .ne v2 c1_i32_160
  let v241 : BitVec 32 := Scalar.extui v240
  let c0_i32_161 : BitVec 32 := 0#32
  let v242 : BitVec 1 := Scalar.cmpi .ne v241 c0_i32_161
  v242

def k0_off35 (d0 : Dev nD) : Fin 2 → Nat :=
  let c0_i32_298 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![0, v2.toNat]
def k0_off36 (d0 : Dev nD) : Fin 4 → Nat :=
  let c0_i32_297 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_304 : BitVec 32 := 0#32
  let c0_i32_305 : BitVec 32 := 0#32
  ![0, v2.toNat, 0, 0]
def k0_dev21 : Nat :=
  let c0_i32_303 : BitVec 32 := 0#32
  let c1_i32_301 : BitVec 32 := 1#32
  let c1_i32_302 : BitVec 32 := 1#32
  let v436 : BitVec 32 := Scalar.muli c1_i32_301 c1_i32_302
  let v437 : BitVec 32 := Scalar.addi c0_i32_303 v436
  v437.toNat
def k0_cond39 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_162 : BitVec 32 := 2#32
  let v243 : BitVec 1 := Scalar.cmpi .ne v2 c2_i32_162
  let v244 : BitVec 32 := Scalar.extui v243
  let c0_i32_163 : BitVec 32 := 0#32
  let v245 : BitVec 1 := Scalar.cmpi .ne v244 c0_i32_163
  v245

def k0_off37 (d0 : Dev nD) : Fin 2 → Nat :=
  let c0_i32_298 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![0, v2.toNat]
def k0_off38 (d0 : Dev nD) : Fin 4 → Nat :=
  let c0_i32_297 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_304 : BitVec 32 := 0#32
  let c0_i32_305 : BitVec 32 := 0#32
  ![0, v2.toNat, 0, 0]
def k0_dev22 : Nat :=
  let c0_i32_303 : BitVec 32 := 0#32
  let c2_i32_301 : BitVec 32 := 2#32
  let c1_i32_302 : BitVec 32 := 1#32
  let v436 : BitVec 32 := Scalar.muli c2_i32_301 c1_i32_302
  let v437 : BitVec 32 := Scalar.addi c0_i32_303 v436
  v437.toNat
def k0_cond40 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_164 : BitVec 32 := 3#32
  let v246 : BitVec 1 := Scalar.cmpi .ne v2 c3_i32_164
  let v247 : BitVec 32 := Scalar.extui v246
  let c0_i32_165 : BitVec 32 := 0#32
  let v248 : BitVec 1 := Scalar.cmpi .ne v247 c0_i32_165
  v248

def k0_off39 (d0 : Dev nD) : Fin 2 → Nat :=
  let c0_i32_298 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![0, v2.toNat]
def k0_off40 (d0 : Dev nD) : Fin 4 → Nat :=
  let c0_i32_297 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_304 : BitVec 32 := 0#32
  let c0_i32_305 : BitVec 32 := 0#32
  ![0, v2.toNat, 0, 0]
def k0_dev23 : Nat :=
  let c0_i32_303 : BitVec 32 := 0#32
  let c3_i32_301 : BitVec 32 := 3#32
  let c1_i32_302 : BitVec 32 := 1#32
  let v436 : BitVec 32 := Scalar.muli c3_i32_301 c1_i32_302
  let v437 : BitVec 32 := Scalar.addi c0_i32_303 v436
  v437.toNat
def k0_cond45 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_179 : BitVec 32 := 0#32
  let v266 : BitVec 1 := Scalar.cmpi .ne v2 c0_i32_179
  let v267 : BitVec 32 := Scalar.extui v266
  let c0_i32_180 : BitVec 32 := 0#32
  let v268 : BitVec 1 := Scalar.cmpi .ne v267 c0_i32_180
  v268

def k0_off41 (d0 : Dev nD) : Fin 2 → Nat :=
  let c1_i32_298 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![1, v2.toNat]
def k0_off42 (d0 : Dev nD) : Fin 4 → Nat :=
  let c1_i32_297 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_304 : BitVec 32 := 0#32
  let c0_i32_305 : BitVec 32 := 0#32
  ![1, v2.toNat, 0, 0]
def k0_dev24 : Nat :=
  let c0_i32_303 : BitVec 32 := 0#32
  let c0_i32_301 : BitVec 32 := 0#32
  let c1_i32_302 : BitVec 32 := 1#32
  let v436 : BitVec 32 := Scalar.muli c0_i32_301 c1_i32_302
  let v437 : BitVec 32 := Scalar.addi c0_i32_303 v436
  v437.toNat
def k0_cond46 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_181 : BitVec 32 := 1#32
  let v269 : BitVec 1 := Scalar.cmpi .ne v2 c1_i32_181
  let v270 : BitVec 32 := Scalar.extui v269
  let c0_i32_182 : BitVec 32 := 0#32
  let v271 : BitVec 1 := Scalar.cmpi .ne v270 c0_i32_182
  v271

def k0_off43 (d0 : Dev nD) : Fin 2 → Nat :=
  let c1_i32_298 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![1, v2.toNat]
def k0_off44 (d0 : Dev nD) : Fin 4 → Nat :=
  let c1_i32_297 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_304 : BitVec 32 := 0#32
  let c0_i32_305 : BitVec 32 := 0#32
  ![1, v2.toNat, 0, 0]
def k0_dev25 : Nat :=
  let c0_i32_303 : BitVec 32 := 0#32
  let c1_i32_301 : BitVec 32 := 1#32
  let c1_i32_302 : BitVec 32 := 1#32
  let v436 : BitVec 32 := Scalar.muli c1_i32_301 c1_i32_302
  let v437 : BitVec 32 := Scalar.addi c0_i32_303 v436
  v437.toNat
def k0_cond47 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_183 : BitVec 32 := 2#32
  let v272 : BitVec 1 := Scalar.cmpi .ne v2 c2_i32_183
  let v273 : BitVec 32 := Scalar.extui v272
  let c0_i32_184 : BitVec 32 := 0#32
  let v274 : BitVec 1 := Scalar.cmpi .ne v273 c0_i32_184
  v274

def k0_off45 (d0 : Dev nD) : Fin 2 → Nat :=
  let c1_i32_298 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![1, v2.toNat]
def k0_off46 (d0 : Dev nD) : Fin 4 → Nat :=
  let c1_i32_297 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_304 : BitVec 32 := 0#32
  let c0_i32_305 : BitVec 32 := 0#32
  ![1, v2.toNat, 0, 0]
def k0_dev26 : Nat :=
  let c0_i32_303 : BitVec 32 := 0#32
  let c2_i32_301 : BitVec 32 := 2#32
  let c1_i32_302 : BitVec 32 := 1#32
  let v436 : BitVec 32 := Scalar.muli c2_i32_301 c1_i32_302
  let v437 : BitVec 32 := Scalar.addi c0_i32_303 v436
  v437.toNat
def k0_cond48 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_185 : BitVec 32 := 3#32
  let v275 : BitVec 1 := Scalar.cmpi .ne v2 c3_i32_185
  let v276 : BitVec 32 := Scalar.extui v275
  let c0_i32_186 : BitVec 32 := 0#32
  let v277 : BitVec 1 := Scalar.cmpi .ne v276 c0_i32_186
  v277

def k0_off47 (d0 : Dev nD) : Fin 2 → Nat :=
  let c1_i32_298 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![1, v2.toNat]
def k0_off48 (d0 : Dev nD) : Fin 4 → Nat :=
  let c1_i32_297 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_304 : BitVec 32 := 0#32
  let c0_i32_305 : BitVec 32 := 0#32
  ![1, v2.toNat, 0, 0]
def k0_dev27 : Nat :=
  let c0_i32_303 : BitVec 32 := 0#32
  let c3_i32_301 : BitVec 32 := 3#32
  let c1_i32_302 : BitVec 32 := 1#32
  let v436 : BitVec 32 := Scalar.muli c3_i32_301 c1_i32_302
  let v437 : BitVec 32 := Scalar.addi c0_i32_303 v436
  v437.toNat
def k0_cond53 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_200 : BitVec 32 := 0#32
  let v295 : BitVec 1 := Scalar.cmpi .ne v2 c0_i32_200
  let v296 : BitVec 32 := Scalar.extui v295
  let c0_i32_201 : BitVec 32 := 0#32
  let v297 : BitVec 1 := Scalar.cmpi .ne v296 c0_i32_201
  v297

def k0_off49 (d0 : Dev nD) : Fin 2 → Nat :=
  let c2_i32_298 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![2, v2.toNat]
def k0_off50 (d0 : Dev nD) : Fin 4 → Nat :=
  let c2_i32_297 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_304 : BitVec 32 := 0#32
  let c0_i32_305 : BitVec 32 := 0#32
  ![2, v2.toNat, 0, 0]
def k0_dev28 : Nat :=
  let c0_i32_303 : BitVec 32 := 0#32
  let c0_i32_301 : BitVec 32 := 0#32
  let c1_i32_302 : BitVec 32 := 1#32
  let v436 : BitVec 32 := Scalar.muli c0_i32_301 c1_i32_302
  let v437 : BitVec 32 := Scalar.addi c0_i32_303 v436
  v437.toNat
def k0_cond54 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_202 : BitVec 32 := 1#32
  let v298 : BitVec 1 := Scalar.cmpi .ne v2 c1_i32_202
  let v299 : BitVec 32 := Scalar.extui v298
  let c0_i32_203 : BitVec 32 := 0#32
  let v300 : BitVec 1 := Scalar.cmpi .ne v299 c0_i32_203
  v300

def k0_off51 (d0 : Dev nD) : Fin 2 → Nat :=
  let c2_i32_298 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![2, v2.toNat]
def k0_off52 (d0 : Dev nD) : Fin 4 → Nat :=
  let c2_i32_297 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_304 : BitVec 32 := 0#32
  let c0_i32_305 : BitVec 32 := 0#32
  ![2, v2.toNat, 0, 0]
def k0_dev29 : Nat :=
  let c0_i32_303 : BitVec 32 := 0#32
  let c1_i32_301 : BitVec 32 := 1#32
  let c1_i32_302 : BitVec 32 := 1#32
  let v436 : BitVec 32 := Scalar.muli c1_i32_301 c1_i32_302
  let v437 : BitVec 32 := Scalar.addi c0_i32_303 v436
  v437.toNat
def k0_cond55 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_204 : BitVec 32 := 2#32
  let v301 : BitVec 1 := Scalar.cmpi .ne v2 c2_i32_204
  let v302 : BitVec 32 := Scalar.extui v301
  let c0_i32_205 : BitVec 32 := 0#32
  let v303 : BitVec 1 := Scalar.cmpi .ne v302 c0_i32_205
  v303

def k0_off53 (d0 : Dev nD) : Fin 2 → Nat :=
  let c2_i32_298 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![2, v2.toNat]
def k0_off54 (d0 : Dev nD) : Fin 4 → Nat :=
  let c2_i32_297 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_304 : BitVec 32 := 0#32
  let c0_i32_305 : BitVec 32 := 0#32
  ![2, v2.toNat, 0, 0]
def k0_dev30 : Nat :=
  let c0_i32_303 : BitVec 32 := 0#32
  let c2_i32_301 : BitVec 32 := 2#32
  let c1_i32_302 : BitVec 32 := 1#32
  let v436 : BitVec 32 := Scalar.muli c2_i32_301 c1_i32_302
  let v437 : BitVec 32 := Scalar.addi c0_i32_303 v436
  v437.toNat
def k0_cond56 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_206 : BitVec 32 := 3#32
  let v304 : BitVec 1 := Scalar.cmpi .ne v2 c3_i32_206
  let v305 : BitVec 32 := Scalar.extui v304
  let c0_i32_207 : BitVec 32 := 0#32
  let v306 : BitVec 1 := Scalar.cmpi .ne v305 c0_i32_207
  v306

def k0_off55 (d0 : Dev nD) : Fin 2 → Nat :=
  let c2_i32_298 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![2, v2.toNat]
def k0_off56 (d0 : Dev nD) : Fin 4 → Nat :=
  let c2_i32_297 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_304 : BitVec 32 := 0#32
  let c0_i32_305 : BitVec 32 := 0#32
  ![2, v2.toNat, 0, 0]
def k0_dev31 : Nat :=
  let c0_i32_303 : BitVec 32 := 0#32
  let c3_i32_301 : BitVec 32 := 3#32
  let c1_i32_302 : BitVec 32 := 1#32
  let v436 : BitVec 32 := Scalar.muli c3_i32_301 c1_i32_302
  let v437 : BitVec 32 := Scalar.addi c0_i32_303 v436
  v437.toNat
def k0_cond61 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_221 : BitVec 32 := 0#32
  let v324 : BitVec 1 := Scalar.cmpi .ne v2 c0_i32_221
  let v325 : BitVec 32 := Scalar.extui v324
  let c0_i32_222 : BitVec 32 := 0#32
  let v326 : BitVec 1 := Scalar.cmpi .ne v325 c0_i32_222
  v326

def k0_off57 (d0 : Dev nD) : Fin 2 → Nat :=
  let c3_i32_298 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![3, v2.toNat]
def k0_off58 (d0 : Dev nD) : Fin 4 → Nat :=
  let c3_i32_297 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_304 : BitVec 32 := 0#32
  let c0_i32_305 : BitVec 32 := 0#32
  ![3, v2.toNat, 0, 0]
def k0_dev32 : Nat :=
  let c0_i32_303 : BitVec 32 := 0#32
  let c0_i32_301 : BitVec 32 := 0#32
  let c1_i32_302 : BitVec 32 := 1#32
  let v436 : BitVec 32 := Scalar.muli c0_i32_301 c1_i32_302
  let v437 : BitVec 32 := Scalar.addi c0_i32_303 v436
  v437.toNat
def k0_cond62 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_223 : BitVec 32 := 1#32
  let v327 : BitVec 1 := Scalar.cmpi .ne v2 c1_i32_223
  let v328 : BitVec 32 := Scalar.extui v327
  let c0_i32_224 : BitVec 32 := 0#32
  let v329 : BitVec 1 := Scalar.cmpi .ne v328 c0_i32_224
  v329

def k0_off59 (d0 : Dev nD) : Fin 2 → Nat :=
  let c3_i32_298 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![3, v2.toNat]
def k0_off60 (d0 : Dev nD) : Fin 4 → Nat :=
  let c3_i32_297 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_304 : BitVec 32 := 0#32
  let c0_i32_305 : BitVec 32 := 0#32
  ![3, v2.toNat, 0, 0]
def k0_dev33 : Nat :=
  let c0_i32_303 : BitVec 32 := 0#32
  let c1_i32_301 : BitVec 32 := 1#32
  let c1_i32_302 : BitVec 32 := 1#32
  let v436 : BitVec 32 := Scalar.muli c1_i32_301 c1_i32_302
  let v437 : BitVec 32 := Scalar.addi c0_i32_303 v436
  v437.toNat
def k0_cond63 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_225 : BitVec 32 := 2#32
  let v330 : BitVec 1 := Scalar.cmpi .ne v2 c2_i32_225
  let v331 : BitVec 32 := Scalar.extui v330
  let c0_i32_226 : BitVec 32 := 0#32
  let v332 : BitVec 1 := Scalar.cmpi .ne v331 c0_i32_226
  v332

def k0_off61 (d0 : Dev nD) : Fin 2 → Nat :=
  let c3_i32_298 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![3, v2.toNat]
def k0_off62 (d0 : Dev nD) : Fin 4 → Nat :=
  let c3_i32_297 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_304 : BitVec 32 := 0#32
  let c0_i32_305 : BitVec 32 := 0#32
  ![3, v2.toNat, 0, 0]
def k0_dev34 : Nat :=
  let c0_i32_303 : BitVec 32 := 0#32
  let c2_i32_301 : BitVec 32 := 2#32
  let c1_i32_302 : BitVec 32 := 1#32
  let v436 : BitVec 32 := Scalar.muli c2_i32_301 c1_i32_302
  let v437 : BitVec 32 := Scalar.addi c0_i32_303 v436
  v437.toNat
def k0_cond64 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_227 : BitVec 32 := 3#32
  let v333 : BitVec 1 := Scalar.cmpi .ne v2 c3_i32_227
  let v334 : BitVec 32 := Scalar.extui v333
  let c0_i32_228 : BitVec 32 := 0#32
  let v335 : BitVec 1 := Scalar.cmpi .ne v334 c0_i32_228
  v335

def k0_off63 (d0 : Dev nD) : Fin 2 → Nat :=
  let c3_i32_298 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![3, v2.toNat]
def k0_off64 (d0 : Dev nD) : Fin 4 → Nat :=
  let c3_i32_297 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_304 : BitVec 32 := 0#32
  let c0_i32_305 : BitVec 32 := 0#32
  ![3, v2.toNat, 0, 0]
def k0_dev35 : Nat :=
  let c0_i32_303 : BitVec 32 := 0#32
  let c3_i32_301 : BitVec 32 := 3#32
  let c1_i32_302 : BitVec 32 := 1#32
  let v436 : BitVec 32 := Scalar.muli c3_i32_301 c1_i32_302
  let v437 : BitVec 32 := Scalar.addi c0_i32_303 v436
  v437.toNat
def k0_off65 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v337 : BitVec 32 := Scalar.muli v2 c256_i32
  let v338 : Index := Scalar.indexCast v337
  let c0_231 : Index := 0#32
  ![v338.toNat, 0]
def k0_cond81 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_264 : BitVec 32 := 0#32
  let v388 : BitVec 1 := Scalar.cmpi .ne v2 c0_i32_264
  let v389 : BitVec 32 := Scalar.extui v388
  let c0_i32_265 : BitVec 32 := 0#32
  let v390 : BitVec 1 := Scalar.cmpi .ne v389 c0_i32_265
  v390

def k0_off66 (d0 : Dev nD) : Fin 4 → Nat :=
  let c0_i32_296 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_306 : BitVec 32 := 0#32
  let c0_i32_307 : BitVec 32 := 0#32
  ![0, v2.toNat, 0, 0]
def k0_cond82 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_266 : BitVec 32 := 1#32
  let v391 : BitVec 1 := Scalar.cmpi .ne v2 c1_i32_266
  let v392 : BitVec 32 := Scalar.extui v391
  let c0_i32_267 : BitVec 32 := 0#32
  let v393 : BitVec 1 := Scalar.cmpi .ne v392 c0_i32_267
  v393

def k0_off67 (d0 : Dev nD) : Fin 4 → Nat :=
  let c0_i32_296 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_306 : BitVec 32 := 0#32
  let c0_i32_307 : BitVec 32 := 0#32
  ![0, v2.toNat, 0, 0]
def k0_cond83 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_268 : BitVec 32 := 2#32
  let v394 : BitVec 1 := Scalar.cmpi .ne v2 c2_i32_268
  let v395 : BitVec 32 := Scalar.extui v394
  let c0_i32_269 : BitVec 32 := 0#32
  let v396 : BitVec 1 := Scalar.cmpi .ne v395 c0_i32_269
  v396

def k0_off68 (d0 : Dev nD) : Fin 4 → Nat :=
  let c0_i32_296 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_306 : BitVec 32 := 0#32
  let c0_i32_307 : BitVec 32 := 0#32
  ![0, v2.toNat, 0, 0]
def k0_cond84 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_270 : BitVec 32 := 3#32
  let v397 : BitVec 1 := Scalar.cmpi .ne v2 c3_i32_270
  let v398 : BitVec 32 := Scalar.extui v397
  let c0_i32_271 : BitVec 32 := 0#32
  let v399 : BitVec 1 := Scalar.cmpi .ne v398 c0_i32_271
  v399

def k0_off69 (d0 : Dev nD) : Fin 4 → Nat :=
  let c0_i32_296 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_306 : BitVec 32 := 0#32
  let c0_i32_307 : BitVec 32 := 0#32
  ![0, v2.toNat, 0, 0]
def k0_cond85 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_272 : BitVec 32 := 0#32
  let v400 : BitVec 1 := Scalar.cmpi .ne v2 c0_i32_272
  let v401 : BitVec 32 := Scalar.extui v400
  let c0_i32_273 : BitVec 32 := 0#32
  let v402 : BitVec 1 := Scalar.cmpi .ne v401 c0_i32_273
  v402

def k0_off70 (d0 : Dev nD) : Fin 4 → Nat :=
  let c1_i32_296 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_306 : BitVec 32 := 0#32
  let c0_i32_307 : BitVec 32 := 0#32
  ![1, v2.toNat, 0, 0]
def k0_cond86 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_274 : BitVec 32 := 1#32
  let v403 : BitVec 1 := Scalar.cmpi .ne v2 c1_i32_274
  let v404 : BitVec 32 := Scalar.extui v403
  let c0_i32_275 : BitVec 32 := 0#32
  let v405 : BitVec 1 := Scalar.cmpi .ne v404 c0_i32_275
  v405

def k0_off71 (d0 : Dev nD) : Fin 4 → Nat :=
  let c1_i32_296 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_306 : BitVec 32 := 0#32
  let c0_i32_307 : BitVec 32 := 0#32
  ![1, v2.toNat, 0, 0]
def k0_cond87 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_276 : BitVec 32 := 2#32
  let v406 : BitVec 1 := Scalar.cmpi .ne v2 c2_i32_276
  let v407 : BitVec 32 := Scalar.extui v406
  let c0_i32_277 : BitVec 32 := 0#32
  let v408 : BitVec 1 := Scalar.cmpi .ne v407 c0_i32_277
  v408

def k0_off72 (d0 : Dev nD) : Fin 4 → Nat :=
  let c1_i32_296 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_306 : BitVec 32 := 0#32
  let c0_i32_307 : BitVec 32 := 0#32
  ![1, v2.toNat, 0, 0]
def k0_cond88 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_278 : BitVec 32 := 3#32
  let v409 : BitVec 1 := Scalar.cmpi .ne v2 c3_i32_278
  let v410 : BitVec 32 := Scalar.extui v409
  let c0_i32_279 : BitVec 32 := 0#32
  let v411 : BitVec 1 := Scalar.cmpi .ne v410 c0_i32_279
  v411

def k0_off73 (d0 : Dev nD) : Fin 4 → Nat :=
  let c1_i32_296 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_306 : BitVec 32 := 0#32
  let c0_i32_307 : BitVec 32 := 0#32
  ![1, v2.toNat, 0, 0]
def k0_cond89 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_280 : BitVec 32 := 0#32
  let v412 : BitVec 1 := Scalar.cmpi .ne v2 c0_i32_280
  let v413 : BitVec 32 := Scalar.extui v412
  let c0_i32_281 : BitVec 32 := 0#32
  let v414 : BitVec 1 := Scalar.cmpi .ne v413 c0_i32_281
  v414

def k0_off74 (d0 : Dev nD) : Fin 4 → Nat :=
  let c2_i32_296 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_306 : BitVec 32 := 0#32
  let c0_i32_307 : BitVec 32 := 0#32
  ![2, v2.toNat, 0, 0]
def k0_cond90 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_282 : BitVec 32 := 1#32
  let v415 : BitVec 1 := Scalar.cmpi .ne v2 c1_i32_282
  let v416 : BitVec 32 := Scalar.extui v415
  let c0_i32_283 : BitVec 32 := 0#32
  let v417 : BitVec 1 := Scalar.cmpi .ne v416 c0_i32_283
  v417

def k0_off75 (d0 : Dev nD) : Fin 4 → Nat :=
  let c2_i32_296 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_306 : BitVec 32 := 0#32
  let c0_i32_307 : BitVec 32 := 0#32
  ![2, v2.toNat, 0, 0]
def k0_cond91 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_284 : BitVec 32 := 2#32
  let v418 : BitVec 1 := Scalar.cmpi .ne v2 c2_i32_284
  let v419 : BitVec 32 := Scalar.extui v418
  let c0_i32_285 : BitVec 32 := 0#32
  let v420 : BitVec 1 := Scalar.cmpi .ne v419 c0_i32_285
  v420

def k0_off76 (d0 : Dev nD) : Fin 4 → Nat :=
  let c2_i32_296 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_306 : BitVec 32 := 0#32
  let c0_i32_307 : BitVec 32 := 0#32
  ![2, v2.toNat, 0, 0]
def k0_cond92 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_286 : BitVec 32 := 3#32
  let v421 : BitVec 1 := Scalar.cmpi .ne v2 c3_i32_286
  let v422 : BitVec 32 := Scalar.extui v421
  let c0_i32_287 : BitVec 32 := 0#32
  let v423 : BitVec 1 := Scalar.cmpi .ne v422 c0_i32_287
  v423

def k0_off77 (d0 : Dev nD) : Fin 4 → Nat :=
  let c2_i32_296 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_306 : BitVec 32 := 0#32
  let c0_i32_307 : BitVec 32 := 0#32
  ![2, v2.toNat, 0, 0]
def k0_cond93 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_288 : BitVec 32 := 0#32
  let v424 : BitVec 1 := Scalar.cmpi .ne v2 c0_i32_288
  let v425 : BitVec 32 := Scalar.extui v424
  let c0_i32_289 : BitVec 32 := 0#32
  let v426 : BitVec 1 := Scalar.cmpi .ne v425 c0_i32_289
  v426

def k0_off78 (d0 : Dev nD) : Fin 4 → Nat :=
  let c3_i32_296 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_306 : BitVec 32 := 0#32
  let c0_i32_307 : BitVec 32 := 0#32
  ![3, v2.toNat, 0, 0]
def k0_cond94 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_290 : BitVec 32 := 1#32
  let v427 : BitVec 1 := Scalar.cmpi .ne v2 c1_i32_290
  let v428 : BitVec 32 := Scalar.extui v427
  let c0_i32_291 : BitVec 32 := 0#32
  let v429 : BitVec 1 := Scalar.cmpi .ne v428 c0_i32_291
  v429

def k0_off79 (d0 : Dev nD) : Fin 4 → Nat :=
  let c3_i32_296 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_306 : BitVec 32 := 0#32
  let c0_i32_307 : BitVec 32 := 0#32
  ![3, v2.toNat, 0, 0]
def k0_cond95 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_292 : BitVec 32 := 2#32
  let v430 : BitVec 1 := Scalar.cmpi .ne v2 c2_i32_292
  let v431 : BitVec 32 := Scalar.extui v430
  let c0_i32_293 : BitVec 32 := 0#32
  let v432 : BitVec 1 := Scalar.cmpi .ne v431 c0_i32_293
  v432

def k0_off80 (d0 : Dev nD) : Fin 4 → Nat :=
  let c3_i32_296 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_306 : BitVec 32 := 0#32
  let c0_i32_307 : BitVec 32 := 0#32
  ![3, v2.toNat, 0, 0]
def k0_cond96 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_294 : BitVec 32 := 3#32
  let v433 : BitVec 1 := Scalar.cmpi .ne v2 c3_i32_294
  let v434 : BitVec 32 := Scalar.extui v433
  let c0_i32_295 : BitVec 32 := 0#32
  let v435 : BitVec 1 := Scalar.cmpi .ne v434 c0_i32_295
  v435

def k0_off81 (d0 : Dev nD) : Fin 4 → Nat :=
  let c3_i32_296 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_306 : BitVec 32 := 0#32
  let c0_i32_307 : BitVec 32 := 0#32
  ![3, v2.toNat, 0, 0]
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1024x256 : Shape := ⟨2, ![1024, 256]⟩
abbrev S256x16 : Shape := ⟨2, ![256, 16]⟩
abbrev S1024x1 : Shape := ⟨2, ![1024, 1]⟩
abbrev S16x256x512 : Shape := ⟨3, ![16, 256, 512]⟩
abbrev S256x512 : Shape := ⟨2, ![256, 512]⟩
abbrev S1024x16 : Shape := ⟨2, ![1024, 16]⟩
abbrev S_ : Shape := ⟨0, ![]⟩
abbrev S1024 : Shape := ⟨1, ![1024]⟩
abbrev S1024x512 : Shape := ⟨2, ![1024, 512]⟩
abbrev S1x256x512 : Shape := ⟨3, ![1, 256, 512]⟩

abbrev nBuf : Space → Nat
  | .hbm => 277
  | .vmem => 0
  | .smem => 0
  | _ => 0

abbrev hbmTy0_0 (i : Nat) : BufTy := match i % 128 with
  | 0 => ⟨S1024x256, .bf16⟩
  | 1 => ⟨S256x16, .bf16⟩
  | 2 => ⟨S1024x1, .i32⟩
  | 3 => ⟨S16x256x512, .bf16⟩
  | 4 => ⟨S256x512, .bf16⟩
  | 5 => ⟨S1024x256, .f32⟩
  | 6 => ⟨S256x16, .f32⟩
  | 7 => ⟨S1024x16, .f32⟩
  | 8 => ⟨S_, .f32⟩
  | 9 => ⟨S1024, .f32⟩
  | 10 => ⟨S1024x1, .f32⟩
  | 11 => ⟨S1024x16, .f32⟩
  | 12 => ⟨S1024x16, .f32⟩
  | 13 => ⟨S1024x16, .f32⟩
  | 14 => ⟨S_, .f32⟩
  | 15 => ⟨S1024, .f32⟩
  | 16 => ⟨S1024x1, .f32⟩
  | 17 => ⟨S1024x16, .f32⟩
  | 18 => ⟨S1024x16, .f32⟩
  | 19 => ⟨S256x512, .f32⟩
  | 20 => ⟨S1024x512, .f32⟩
  | 21 => ⟨S1024x1, .f32⟩
  | 22 => ⟨S1x256x512, .bf16⟩
  | 23 => ⟨S256x512, .bf16⟩
  | 24 => ⟨S256x512, .f32⟩
  | 25 => ⟨S1024x512, .f32⟩
  | 26 => ⟨S1024x512, .f32⟩
  | 27 => ⟨S1024x512, .f32⟩
  | 28 => ⟨S_, .i32⟩
  | 29 => ⟨S1024x1, .i32⟩
  | 30 => ⟨S1024x1, .i1⟩
  | 31 => ⟨S_, .f32⟩
  | 32 => ⟨S_, .f32⟩
  | 33 => ⟨S1024x512, .i1⟩
  | 34 => ⟨S1024x512, .f32⟩
  | 35 => ⟨S1024x512, .f32⟩
  | 36 => ⟨S1024x512, .f32⟩
  | 37 => ⟨S1024x1, .f32⟩
  | 38 => ⟨S1x256x512, .bf16⟩
  | 39 => ⟨S256x512, .bf16⟩
  | 40 => ⟨S256x512, .f32⟩
  | 41 => ⟨S1024x512, .f32⟩
  | 42 => ⟨S1024x512, .f32⟩
  | 43 => ⟨S1024x512, .f32⟩
  | 44 => ⟨S_, .i32⟩
  | 45 => ⟨S1024x1, .i32⟩
  | 46 => ⟨S1024x1, .i1⟩
  | 47 => ⟨S_, .f32⟩
  | 48 => ⟨S_, .f32⟩
  | 49 => ⟨S1024x512, .i1⟩
  | 50 => ⟨S1024x512, .f32⟩
  | 51 => ⟨S1024x512, .f32⟩
  | 52 => ⟨S1024x512, .f32⟩
  | 53 => ⟨S1024x1, .f32⟩
  | 54 => ⟨S1x256x512, .bf16⟩
  | 55 => ⟨S256x512, .bf16⟩
  | 56 => ⟨S256x512, .f32⟩
  | 57 => ⟨S1024x512, .f32⟩
  | 58 => ⟨S1024x512, .f32⟩
  | 59 => ⟨S1024x512, .f32⟩
  | 60 => ⟨S_, .i32⟩
  | 61 => ⟨S1024x1, .i32⟩
  | 62 => ⟨S1024x1, .i1⟩
  | 63 => ⟨S_, .f32⟩
  | 64 => ⟨S_, .f32⟩
  | 65 => ⟨S1024x512, .i1⟩
  | 66 => ⟨S1024x512, .f32⟩
  | 67 => ⟨S1024x512, .f32⟩
  | 68 => ⟨S1024x512, .f32⟩
  | 69 => ⟨S1024x1, .f32⟩
  | 70 => ⟨S1x256x512, .bf16⟩
  | 71 => ⟨S256x512, .bf16⟩
  | 72 => ⟨S256x512, .f32⟩
  | 73 => ⟨S1024x512, .f32⟩
  | 74 => ⟨S1024x512, .f32⟩
  | 75 => ⟨S1024x512, .f32⟩
  | 76 => ⟨S_, .i32⟩
  | 77 => ⟨S1024x1, .i32⟩
  | 78 => ⟨S1024x1, .i1⟩
  | 79 => ⟨S_, .f32⟩
  | 80 => ⟨S_, .f32⟩
  | 81 => ⟨S1024x512, .i1⟩
  | 82 => ⟨S1024x512, .f32⟩
  | 83 => ⟨S1024x512, .f32⟩
  | 84 => ⟨S1024x512, .f32⟩
  | 85 => ⟨S1024x1, .f32⟩
  | 86 => ⟨S1x256x512, .bf16⟩
  | 87 => ⟨S256x512, .bf16⟩
  | 88 => ⟨S256x512, .f32⟩
  | 89 => ⟨S1024x512, .f32⟩
  | 90 => ⟨S1024x512, .f32⟩
  | 91 => ⟨S1024x512, .f32⟩
  | 92 => ⟨S_, .i32⟩
  | 93 => ⟨S1024x1, .i32⟩
  | 94 => ⟨S1024x1, .i1⟩
  | 95 => ⟨S_, .f32⟩
  | 96 => ⟨S_, .f32⟩
  | 97 => ⟨S1024x512, .i1⟩
  | 98 => ⟨S1024x512, .f32⟩
  | 99 => ⟨S1024x512, .f32⟩
  | 100 => ⟨S1024x512, .f32⟩
  | 101 => ⟨S1024x1, .f32⟩
  | 102 => ⟨S1x256x512, .bf16⟩
  | 103 => ⟨S256x512, .bf16⟩
  | 104 => ⟨S256x512, .f32⟩
  | 105 => ⟨S1024x512, .f32⟩
  | 106 => ⟨S1024x512, .f32⟩
  | 107 => ⟨S1024x512, .f32⟩
  | 108 => ⟨S_, .i32⟩
  | 109 => ⟨S1024x1, .i32⟩
  | 110 => ⟨S1024x1, .i1⟩
  | 111 => ⟨S_, .f32⟩
  | 112 => ⟨S_, .f32⟩
  | 113 => ⟨S1024x512, .i1⟩
  | 114 => ⟨S1024x512, .f32⟩
  | 115 => ⟨S1024x512, .f32⟩
  | 116 => ⟨S1024x512, .f32⟩
  | 117 => ⟨S1024x1, .f32⟩
  | 118 => ⟨S1x256x512, .bf16⟩
  | 119 => ⟨S256x512, .bf16⟩
  | 120 => ⟨S256x512, .f32⟩
  | 121 => ⟨S1024x512, .f32⟩
  | 122 => ⟨S1024x512, .f32⟩
  | 123 => ⟨S1024x512, .f32⟩
  | 124 => ⟨S_, .i32⟩
  | 125 => ⟨S1024x1, .i32⟩
  | 126 => ⟨S1024x1, .i1⟩
  | 127 => ⟨S_, .f32⟩
  | _ => ⟨S1024x256, .bf16⟩

abbrev hbmTy0_1 (i : Nat) : BufTy := match i % 128 with
  | 0 => ⟨S_, .f32⟩
  | 1 => ⟨S1024x512, .i1⟩
  | 2 => ⟨S1024x512, .f32⟩
  | 3 => ⟨S1024x512, .f32⟩
  | 4 => ⟨S1024x512, .f32⟩
  | 5 => ⟨S1024x1, .f32⟩
  | 6 => ⟨S1x256x512, .bf16⟩
  | 7 => ⟨S256x512, .bf16⟩
  | 8 => ⟨S256x512, .f32⟩
  | 9 => ⟨S1024x512, .f32⟩
  | 10 => ⟨S1024x512, .f32⟩
  | 11 => ⟨S1024x512, .f32⟩
  | 12 => ⟨S_, .i32⟩
  | 13 => ⟨S1024x1, .i32⟩
  | 14 => ⟨S1024x1, .i1⟩
  | 15 => ⟨S_, .f32⟩
  | 16 => ⟨S_, .f32⟩
  | 17 => ⟨S1024x512, .i1⟩
  | 18 => ⟨S1024x512, .f32⟩
  | 19 => ⟨S1024x512, .f32⟩
  | 20 => ⟨S1024x512, .f32⟩
  | 21 => ⟨S1024x1, .f32⟩
  | 22 => ⟨S1x256x512, .bf16⟩
  | 23 => ⟨S256x512, .bf16⟩
  | 24 => ⟨S256x512, .f32⟩
  | 25 => ⟨S1024x512, .f32⟩
  | 26 => ⟨S1024x512, .f32⟩
  | 27 => ⟨S1024x512, .f32⟩
  | 28 => ⟨S_, .i32⟩
  | 29 => ⟨S1024x1, .i32⟩
  | 30 => ⟨S1024x1, .i1⟩
  | 31 => ⟨S_, .f32⟩
  | 32 => ⟨S_, .f32⟩
  | 33 => ⟨S1024x512, .i1⟩
  | 34 => ⟨S1024x512, .f32⟩
  | 35 => ⟨S1024x512, .f32⟩
  | 36 => ⟨S1024x512, .f32⟩
  | 37 => ⟨S1024x1, .f32⟩
  | 38 => ⟨S1x256x512, .bf16⟩
  | 39 => ⟨S256x512, .bf16⟩
  | 40 => ⟨S256x512, .f32⟩
  | 41 => ⟨S1024x512, .f32⟩
  | 42 => ⟨S1024x512, .f32⟩
  | 43 => ⟨S1024x512, .f32⟩
  | 44 => ⟨S_, .i32⟩
  | 45 => ⟨S1024x1, .i32⟩
  | 46 => ⟨S1024x1, .i1⟩
  | 47 => ⟨S_, .f32⟩
  | 48 => ⟨S_, .f32⟩
  | 49 => ⟨S1024x512, .i1⟩
  | 50 => ⟨S1024x512, .f32⟩
  | 51 => ⟨S1024x512, .f32⟩
  | 52 => ⟨S1024x512, .f32⟩
  | 53 => ⟨S1024x1, .f32⟩
  | 54 => ⟨S1x256x512, .bf16⟩
  | 55 => ⟨S256x512, .bf16⟩
  | 56 => ⟨S256x512, .f32⟩
  | 57 => ⟨S1024x512, .f32⟩
  | 58 => ⟨S1024x512, .f32⟩
  | 59 => ⟨S1024x512, .f32⟩
  | 60 => ⟨S_, .i32⟩
  | 61 => ⟨S1024x1, .i32⟩
  | 62 => ⟨S1024x1, .i1⟩
  | 63 => ⟨S_, .f32⟩
  | 64 => ⟨S_, .f32⟩
  | 65 => ⟨S1024x512, .i1⟩
  | 66 => ⟨S1024x512, .f32⟩
  | 67 => ⟨S1024x512, .f32⟩
  | 68 => ⟨S1024x512, .f32⟩
  | 69 => ⟨S1024x1, .f32⟩
  | 70 => ⟨S1x256x512, .bf16⟩
  | 71 => ⟨S256x512, .bf16⟩
  | 72 => ⟨S256x512, .f32⟩
  | 73 => ⟨S1024x512, .f32⟩
  | 74 => ⟨S1024x512, .f32⟩
  | 75 => ⟨S1024x512, .f32⟩
  | 76 => ⟨S_, .i32⟩
  | 77 => ⟨S1024x1, .i32⟩
  | 78 => ⟨S1024x1, .i1⟩
  | 79 => ⟨S_, .f32⟩
  | 80 => ⟨S_, .f32⟩
  | 81 => ⟨S1024x512, .i1⟩
  | 82 => ⟨S1024x512, .f32⟩
  | 83 => ⟨S1024x512, .f32⟩
  | 84 => ⟨S1024x512, .f32⟩
  | 85 => ⟨S1024x1, .f32⟩
  | 86 => ⟨S1x256x512, .bf16⟩
  | 87 => ⟨S256x512, .bf16⟩
  | 88 => ⟨S256x512, .f32⟩
  | 89 => ⟨S1024x512, .f32⟩
  | 90 => ⟨S1024x512, .f32⟩
  | 91 => ⟨S1024x512, .f32⟩
  | 92 => ⟨S_, .i32⟩
  | 93 => ⟨S1024x1, .i32⟩
  | 94 => ⟨S1024x1, .i1⟩
  | 95 => ⟨S_, .f32⟩
  | 96 => ⟨S_, .f32⟩
  | 97 => ⟨S1024x512, .i1⟩
  | 98 => ⟨S1024x512, .f32⟩
  | 99 => ⟨S1024x512, .f32⟩
  | 100 => ⟨S1024x512, .f32⟩
  | 101 => ⟨S1024x1, .f32⟩
  | 102 => ⟨S1x256x512, .bf16⟩
  | 103 => ⟨S256x512, .bf16⟩
  | 104 => ⟨S256x512, .f32⟩
  | 105 => ⟨S1024x512, .f32⟩
  | 106 => ⟨S1024x512, .f32⟩
  | 107 => ⟨S1024x512, .f32⟩
  | 108 => ⟨S_, .i32⟩
  | 109 => ⟨S1024x1, .i32⟩
  | 110 => ⟨S1024x1, .i1⟩
  | 111 => ⟨S_, .f32⟩
  | 112 => ⟨S_, .f32⟩
  | 113 => ⟨S1024x512, .i1⟩
  | 114 => ⟨S1024x512, .f32⟩
  | 115 => ⟨S1024x512, .f32⟩
  | 116 => ⟨S1024x512, .f32⟩
  | 117 => ⟨S1024x1, .f32⟩
  | 118 => ⟨S1x256x512, .bf16⟩
  | 119 => ⟨S256x512, .bf16⟩
  | 120 => ⟨S256x512, .f32⟩
  | 121 => ⟨S1024x512, .f32⟩
  | 122 => ⟨S1024x512, .f32⟩
  | 123 => ⟨S1024x512, .f32⟩
  | 124 => ⟨S_, .i32⟩
  | 125 => ⟨S1024x1, .i32⟩
  | 126 => ⟨S1024x1, .i1⟩
  | 127 => ⟨S_, .f32⟩
  | _ => ⟨S1024x256, .bf16⟩

abbrev hbmTy0_2 (i : Nat) : BufTy := match i % 128 with
  | 0 => ⟨S_, .f32⟩
  | 1 => ⟨S1024x512, .i1⟩
  | 2 => ⟨S1024x512, .f32⟩
  | 3 => ⟨S1024x512, .f32⟩
  | 4 => ⟨S1024x512, .f32⟩
  | 5 => ⟨S1024x1, .f32⟩
  | 6 => ⟨S1x256x512, .bf16⟩
  | 7 => ⟨S256x512, .bf16⟩
  | 8 => ⟨S256x512, .f32⟩
  | 9 => ⟨S1024x512, .f32⟩
  | 10 => ⟨S1024x512, .f32⟩
  | 11 => ⟨S1024x512, .f32⟩
  | 12 => ⟨S_, .i32⟩
  | 13 => ⟨S1024x1, .i32⟩
  | 14 => ⟨S1024x1, .i1⟩
  | 15 => ⟨S_, .f32⟩
  | 16 => ⟨S_, .f32⟩
  | 17 => ⟨S1024x512, .i1⟩
  | 18 => ⟨S1024x512, .f32⟩
  | 19 => ⟨S1024x512, .f32⟩
  | 20 => ⟨S1024x512, .f32⟩
  | _ => ⟨S1024x256, .bf16⟩

abbrev hbmTy (i : Nat) : BufTy := match i / 128 with
  | 0 => hbmTy0_0 i
  | 1 => hbmTy0_1 i
  | 2 => hbmTy0_2 i
  | _ => ⟨S1024x256, .bf16⟩

abbrev bufTy : (tb : Table) → Fin (tcTables nBuf tb) → BufTy
  | .hbm, ⟨i, _⟩ => hbmTy i
  | _, _ => ⟨S1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_2 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_4 : Ref sig .tc := ⟨.hbm, 60, rfl⟩
abbrev main_v43 : Ref sig .tc := ⟨.hbm, 61, rfl⟩
abbrev main_v44 : Ref sig .tc := ⟨.hbm, 62, rfl⟩
abbrev main_cst_5 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_6 : Ref sig .tc := ⟨.hbm, 76, rfl⟩
abbrev main_v54 : Ref sig .tc := ⟨.hbm, 77, rfl⟩
abbrev main_v55 : Ref sig .tc := ⟨.hbm, 78, rfl⟩
abbrev main_cst_7 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_8 : Ref sig .tc := ⟨.hbm, 92, rfl⟩
abbrev main_v65 : Ref sig .tc := ⟨.hbm, 93, rfl⟩
abbrev main_v66 : Ref sig .tc := ⟨.hbm, 94, rfl⟩
abbrev main_cst_9 : Ref sig .tc := ⟨.hbm, 95, rfl⟩
abbrev main_call4_v0 : Ref sig .tc := ⟨.hbm, 96, rfl⟩
abbrev main_call4_v1 : Ref sig .tc := ⟨.hbm, 97, rfl⟩
abbrev main_call4_v2 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_c_10 : Ref sig .tc := ⟨.hbm, 108, rfl⟩
abbrev main_v76 : Ref sig .tc := ⟨.hbm, 109, rfl⟩
abbrev main_v77 : Ref sig .tc := ⟨.hbm, 110, rfl⟩
abbrev main_cst_11 : Ref sig .tc := ⟨.hbm, 111, rfl⟩
abbrev main_call5_v0 : Ref sig .tc := ⟨.hbm, 112, rfl⟩
abbrev main_call5_v1 : Ref sig .tc := ⟨.hbm, 113, rfl⟩
abbrev main_call5_v2 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_c_12 : Ref sig .tc := ⟨.hbm, 124, rfl⟩
abbrev main_v87 : Ref sig .tc := ⟨.hbm, 125, rfl⟩
abbrev main_v88 : Ref sig .tc := ⟨.hbm, 126, rfl⟩
abbrev main_cst_13 : Ref sig .tc := ⟨.hbm, 127, rfl⟩
abbrev main_call6_v0 : Ref sig .tc := ⟨.hbm, 128, rfl⟩
abbrev main_call6_v1 : Ref sig .tc := ⟨.hbm, 129, rfl⟩
abbrev main_call6_v2 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_c_14 : Ref sig .tc := ⟨.hbm, 140, rfl⟩
abbrev main_v98 : Ref sig .tc := ⟨.hbm, 141, rfl⟩
abbrev main_v99 : Ref sig .tc := ⟨.hbm, 142, rfl⟩
abbrev main_cst_15 : Ref sig .tc := ⟨.hbm, 143, rfl⟩
abbrev main_call7_v0 : Ref sig .tc := ⟨.hbm, 144, rfl⟩
abbrev main_call7_v1 : Ref sig .tc := ⟨.hbm, 145, rfl⟩
abbrev main_call7_v2 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_c_16 : Ref sig .tc := ⟨.hbm, 156, rfl⟩
abbrev main_v109 : Ref sig .tc := ⟨.hbm, 157, rfl⟩
abbrev main_v110 : Ref sig .tc := ⟨.hbm, 158, rfl⟩
abbrev main_cst_17 : Ref sig .tc := ⟨.hbm, 159, rfl⟩
abbrev main_call8_v0 : Ref sig .tc := ⟨.hbm, 160, rfl⟩
abbrev main_call8_v1 : Ref sig .tc := ⟨.hbm, 161, rfl⟩
abbrev main_call8_v2 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_c_18 : Ref sig .tc := ⟨.hbm, 172, rfl⟩
abbrev main_v120 : Ref sig .tc := ⟨.hbm, 173, rfl⟩
abbrev main_v121 : Ref sig .tc := ⟨.hbm, 174, rfl⟩
abbrev main_cst_19 : Ref sig .tc := ⟨.hbm, 175, rfl⟩
abbrev main_call9_v0 : Ref sig .tc := ⟨.hbm, 176, rfl⟩
abbrev main_call9_v1 : Ref sig .tc := ⟨.hbm, 177, rfl⟩
abbrev main_call9_v2 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_c_20 : Ref sig .tc := ⟨.hbm, 188, rfl⟩
abbrev main_v131 : Ref sig .tc := ⟨.hbm, 189, rfl⟩
abbrev main_v132 : Ref sig .tc := ⟨.hbm, 190, rfl⟩
abbrev main_cst_21 : Ref sig .tc := ⟨.hbm, 191, rfl⟩
abbrev main_call10_v0 : Ref sig .tc := ⟨.hbm, 192, rfl⟩
abbrev main_call10_v1 : Ref sig .tc := ⟨.hbm, 193, rfl⟩
abbrev main_call10_v2 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_c_22 : Ref sig .tc := ⟨.hbm, 204, rfl⟩
abbrev main_v142 : Ref sig .tc := ⟨.hbm, 205, rfl⟩
abbrev main_v143 : Ref sig .tc := ⟨.hbm, 206, rfl⟩
abbrev main_cst_23 : Ref sig .tc := ⟨.hbm, 207, rfl⟩
abbrev main_call11_v0 : Ref sig .tc := ⟨.hbm, 208, rfl⟩
abbrev main_call11_v1 : Ref sig .tc := ⟨.hbm, 209, rfl⟩
abbrev main_call11_v2 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_c_24 : Ref sig .tc := ⟨.hbm, 220, rfl⟩
abbrev main_v153 : Ref sig .tc := ⟨.hbm, 221, rfl⟩
abbrev main_v154 : Ref sig .tc := ⟨.hbm, 222, rfl⟩
abbrev main_cst_25 : Ref sig .tc := ⟨.hbm, 223, rfl⟩
abbrev main_call12_v0 : Ref sig .tc := ⟨.hbm, 224, rfl⟩
abbrev main_call12_v1 : Ref sig .tc := ⟨.hbm, 225, rfl⟩
abbrev main_call12_v2 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_v163 : Ref sig .tc := ⟨.hbm, 235, rfl⟩
abbrev main_c_26 : Ref sig .tc := ⟨.hbm, 236, rfl⟩
abbrev main_v164 : Ref sig .tc := ⟨.hbm, 237, rfl⟩
abbrev main_v165 : Ref sig .tc := ⟨.hbm, 238, rfl⟩
abbrev main_cst_27 : Ref sig .tc := ⟨.hbm, 239, rfl⟩
abbrev main_call13_v0 : Ref sig .tc := ⟨.hbm, 240, rfl⟩
abbrev main_call13_v1 : Ref sig .tc := ⟨.hbm, 241, rfl⟩
abbrev main_call13_v2 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_v169 : Ref sig .tc := ⟨.hbm, 246, rfl⟩
abbrev main_v170 : Ref sig .tc := ⟨.hbm, 247, rfl⟩
abbrev main_v171 : Ref sig .tc := ⟨.hbm, 248, rfl⟩
abbrev main_v172 : Ref sig .tc := ⟨.hbm, 249, rfl⟩
abbrev main_v173 : Ref sig .tc := ⟨.hbm, 250, rfl⟩
abbrev main_v174 : Ref sig .tc := ⟨.hbm, 251, rfl⟩
abbrev main_c_28 : Ref sig .tc := ⟨.hbm, 252, rfl⟩
abbrev main_v175 : Ref sig .tc := ⟨.hbm, 253, rfl⟩
abbrev main_v176 : Ref sig .tc := ⟨.hbm, 254, rfl⟩
abbrev main_cst_29 : Ref sig .tc := ⟨.hbm, 255, rfl⟩
abbrev main_call14_v0 : Ref sig .tc := ⟨.hbm, 256, rfl⟩
abbrev main_call14_v1 : Ref sig .tc := ⟨.hbm, 257, rfl⟩
abbrev main_call14_v2 : Ref sig .tc := ⟨.hbm, 258, rfl⟩
abbrev main_v177 : Ref sig .tc := ⟨.hbm, 259, rfl⟩
abbrev main_v178 : Ref sig .tc := ⟨.hbm, 260, rfl⟩
abbrev main_v179 : Ref sig .tc := ⟨.hbm, 261, rfl⟩
abbrev main_v180 : Ref sig .tc := ⟨.hbm, 262, rfl⟩
abbrev main_v181 : Ref sig .tc := ⟨.hbm, 263, rfl⟩
abbrev main_v182 : Ref sig .tc := ⟨.hbm, 264, rfl⟩
abbrev main_v183 : Ref sig .tc := ⟨.hbm, 265, rfl⟩
abbrev main_v184 : Ref sig .tc := ⟨.hbm, 266, rfl⟩
abbrev main_v185 : Ref sig .tc := ⟨.hbm, 267, rfl⟩
abbrev main_c_30 : Ref sig .tc := ⟨.hbm, 268, rfl⟩
abbrev main_v186 : Ref sig .tc := ⟨.hbm, 269, rfl⟩
abbrev main_v187 : Ref sig .tc := ⟨.hbm, 270, rfl⟩
abbrev main_cst_31 : Ref sig .tc := ⟨.hbm, 271, rfl⟩
abbrev main_call15_v0 : Ref sig .tc := ⟨.hbm, 272, rfl⟩
abbrev main_call15_v1 : Ref sig .tc := ⟨.hbm, 273, rfl⟩
abbrev main_call15_v2 : Ref sig .tc := ⟨.hbm, 274, rfl⟩
abbrev main_v188 : Ref sig .tc := ⟨.hbm, 275, rfl⟩
abbrev main_v189 : Ref sig .tc := ⟨.hbm, 276, rfl⟩

abbrev nD : Nat := 1
abbrev τ : Topo := Topo.v7x

variable {F : FTy → Type} [FloatOps F]
-- ==== Proof.Proto.lean ====
/-
# The exchange protocol

Four devices; device `c` computes, for every device `k` and quarter `h`, its partial product for the 64 rows
`256 k + 64 h …` of the result. The rows of device `k` are sent to `k` (reduce phase), summed there, rounded, and sent
to everybody (gather phase).

Semaphores of one device, each used for ONE round:

* the barrier: one unit from each of the three peers. Peer `d`'s unit hands over `d`'s landing slots
  `(h, c)` of both phases, at any contents;
* `rs_recv (h, k)`, `k ≠ c`: one landing from `k`, which hands over slot `(h, k)` of the reduce landing buffer, holding
  `k`'s rounded partial product for quarter `h` of `c`'s rows;
* `rs_send (h, k)`, `k ≠ c`: the departure of the copy to `k`, which hands the staging slot back;
* `ag_recv (h, k)`, `k ≠ c`: one landing from `k`: slot `(h, k)` of the gather landing buffer, holding `k`'s rounded sum;
* `ag_send (h, k)`, `k ≠ c`: the departure of the copy to `k`, which hands a quarter share of the gather staging slot `h` back.

The semaphores at `k = c` are never used.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic
public import Idealize.ShloMosaic.Lib.Ring.FamCut
public import Idealize.ShloMosaic.Lib.ReshapeSlab

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's (duties named by a device) -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Buffers and their slots -/

abbrev xsM : Memref sig .tc .vmem S1024x1280 .bf16 := Memref.whole cc0_scratch0
abbrev sbM : Memref sig .tc .vmem S4x4x64x512 .bf16 := Memref.whole cc0_scratch1
abbrev redM : Memref sig .tc .vmem S256x512 .f32 := Memref.whole cc0_scratch2
abbrev agM : Memref sig .tc .vmem S4x64x512 .bf16 := Memref.whole cc0_scratch3
abbrev rsM : Memref sig .tc .vmem S4x4x64x512 .bf16 := Memref.whole cc0_scratch4
abbrev abM : Memref sig .tc .vmem S4x4x64x512 .bf16 := Memref.whole cc0_scratch5
abbrev outM : Memref sig .tc .vmem S1024x512 .f32 := Memref.whole cc0_stg5_0

theorem inb4 (h k : Fin 4) : ∀ a, (![h.val, k.val, 0, 0] : Fin 4 → Nat) a + S1x1x64x512.size a ≤ S4x4x64x512.size a := by
  revert h k; decide
theorem inb3 (h : Fin 4) : ∀ a, (![h.val, 0, 0] : Fin 3 → Nat) a + S1x64x512.size a ≤ S4x64x512.size a := by
  revert h; decide
theorem inbR (h : Fin 4) : ∀ a, (![64 * h.val, 0] : Fin 2 → Nat) a + S64x512.size a ≤ S256x512.size a := by
  revert h; decide
theorem inbX (k h : Fin 4) : ∀ a, (![256 * k.val + 64 * h.val, 0] : Fin 2 → Nat) a + S64x1280.size a ≤ S1024x1280.size a := by
  revert k h; decide
theorem inbO (k h : Fin 4) : ∀ a, (![256 * k.val + 64 * h.val, 0] : Fin 2 → Nat) a + S64x512.size a ≤ S1024x512.size a := by
  revert k h; decide

abbrev r4 (h k : Fin 4) : Rect S4x4x64x512 := Rect.unit (s := S4x4x64x512) ![h.val, k.val, 0, 0] S1x1x64x512.size (inb4 h k)
abbrev r3 (h : Fin 4) : Rect S4x64x512 := Rect.unit (s := S4x64x512) ![h.val, 0, 0] S1x64x512.size (inb3 h)
abbrev rR (h : Fin 4) : Rect S256x512 := Rect.unit (s := S256x512) ![64 * h.val, 0] S64x512.size (inbR h)
abbrev rX (k h : Fin 4) : Rect S1024x1280 := Rect.unit (s := S1024x1280) ![256 * k.val + 64 * h.val, 0] S64x1280.size (inbX k h)
abbrev rO (k h : Fin 4) : Rect S1024x512 := Rect.unit (s := S1024x512) ![256 * k.val + 64 * h.val, 0] S64x512.size (inbO k h)

/-- Slot `(h, k)` of a 4 × 4 buffer of 64 × 512 blocks. -/
abbrev slot4 (M : Memref sig .tc .vmem S4x4x64x512 .bf16) (h k : Fin 4) : Memref sig .tc .vmem S64x512 .bf16 :=
  (M.slice (r4 h k) (fun _ => rfl)).squeeze S64x512 squeezes_S1x1x64x512_S64x512
/-- Slot `h` of the gather staging buffer. -/
abbrev slot3 (h : Fin 4) : Memref sig .tc .vmem S64x512 .bf16 :=
  (agM.slice (r3 h) (fun _ => rfl)).squeeze S64x512 squeezes_S1x64x512_S64x512

/-! ## Semaphores and cells -/

/-- The runtime's barrier semaphore. -/
abbrev barS : Sem sig := (SemArray.scalar (sig.barrier 0 rfl) : Sems sig S_).sem

/-- Entry `(h, k)` of the `a`-th array of transfer semaphores: `rs_send`, `rs_recv`, `ag_send`, `ag_recv`. -/
def dq (a h k : Fin 4) : DmaSem sig := (⟨6 + 16 * a.val + 4 * h.val + k.val, by omega⟩ : Fin 70)

abbrev barCell (c : Dev nD) : GSem nD τ sig := ((c : Thread nD τ), .reg barS)
abbrev dCell (c : Dev nD) (a h k : Fin 4) : GSem nD τ sig := ((c : Thread nD τ), .dma (dq a h k))

/-- Which array, which quarter, which device a transfer semaphore is about. -/
def aOf (q : Fin 70) : Fin 4 := ⟨((q.val - 6) / 16) % 4, Nat.mod_lt _ (by decide)⟩
def hOf (q : Fin 70) : Fin 4 := ⟨((q.val - 6) / 4) % 4, Nat.mod_lt _ (by decide)⟩
def kOf (q : Fin 70) : Fin 4 := ⟨(q.val - 6) % 4, Nat.mod_lt _ (by decide)⟩

theorem aOf_dq (a h k : Fin 4) : aOf (dq a h k) = a := by revert a h k; decide
theorem hOf_dq (a h k : Fin 4) : hOf (dq a h k) = h := by revert a h k; decide
theorem kOf_dq (a h k : Fin 4) : kOf (dq a h k) = k := by revert a h k; decide
theorem six_le_dq (a h k : Fin 4) : ¬ (dq a h k : Fin 70).val < 6 := by revert a h k; decide

/-- Entry `(h, k)` of a 4 × 4 array is its `4 h + k`-th. -/
theorem pos_of (h k : Fin 4) (inb : ∀ a, (![h.val, k.val] : Fin 2 → Nat) a + S1x1.size a ≤ S4x4.size a) (hq : S1x1.Squeezes S_) (i : S_.Idx) :
    (S4x4.rowMajor ((Rect.unit (s := S4x4) ![h.val, k.val] S1x1.size inb).emb (Shape.reshapeEquiv hq.numel_eq i))).val = 4 * h.val + k.val := by
  rw [Shape.rowMajor_val_two]
  have h0 : (Shape.reshapeEquiv hq.numel_eq i 0).val < 1 := (Shape.reshapeEquiv hq.numel_eq i 0).isLt
  have h1 : (Shape.reshapeEquiv hq.numel_eq i 1).val < 1 := (Shape.reshapeEquiv hq.numel_eq i 1).isLt
  show (h.val + 1 * (Shape.reshapeEquiv hq.numel_eq i 0).val) * 4 + (k.val + 1 * (Shape.reshapeEquiv hq.numel_eq i 1).val) = _
  omega

/-- The printed semaphore `S[h, k]` of an array laid from `base` on. -/
theorem sem_at (base : ℕ) (hb : base + S4x4.numel ≤ 70) (h k : Fin 4) (off : Fin 2 → ℕ) (ho : off = ![h.val, k.val])
    (inb : ∀ a, off a + S1x1.size a ≤ S4x4.size a) (hq : S1x1.Squeezes S_) (q : Fin 70) (hqv : q.val = base + (4 * h.val + k.val)) :
    (((SemArray.consecutive base S4x4 hb : SemArray (Fin 70) S4x4).slice (Rect.unit (s := S4x4) off S1x1.size inb)).squeeze S_ hq).sem = q := by
  subst ho
  refine Fin.ext ?_
  rw [hqv, ← pos_of h k inb hq]
  rfl

/-- The printed semaphore `S[h, k]` of each of the four arrays. -/
theorem sem_rs_send (h k : Fin 4) (off : Fin 2 → ℕ) (ho : off = ![h.val, k.val]) (inb : ∀ a, off a + S1x1.size a ≤ S4x4.size a) (hq : S1x1.Squeezes S_) :
    (((cc0_scratch6).slice (Rect.unit (s := S4x4) off S1x1.size inb)).squeeze S_ hq).sem = dq 0 h k :=
  sem_at 6 _ h k off ho inb hq (dq 0 h k) (by show 6 + 16 * 0 + 4 * h.val + k.val = _; omega)
theorem sem_rs_recv (h k : Fin 4) (off : Fin 2 → ℕ) (ho : off = ![h.val, k.val]) (inb : ∀ a, off a + S1x1.size a ≤ S4x4.size a) (hq : S1x1.Squeezes S_) :
    (((cc0_scratch7).slice (Rect.unit (s := S4x4) off S1x1.size inb)).squeeze S_ hq).sem = dq 1 h k :=
  sem_at 22 _ h k off ho inb hq (dq 1 h k) (by show 6 + 16 * 1 + 4 * h.val + k.val = _; omega)
theorem sem_ag_send (h k : Fin 4) (off : Fin 2 → ℕ) (ho : off = ![h.val, k.val]) (inb : ∀ a, off a + S1x1.size a ≤ S4x4.size a) (hq : S1x1.Squeezes S_) :
    (((cc0_scratch8).slice (Rect.unit (s := S4x4) off S1x1.size inb)).squeeze S_ hq).sem = dq 2 h k :=
  sem_at 38 _ h k off ho inb hq (dq 2 h k) (by show 6 + 16 * 2 + 4 * h.val + k.val = _; omega)
theorem sem_ag_recv (h k : Fin 4) (off : Fin 2 → ℕ) (ho : off = ![h.val, k.val]) (inb : ∀ a, off a + S1x1.size a ≤ S4x4.size a) (hq : S1x1.Squeezes S_) :
    (((cc0_scratch9).slice (Rect.unit (s := S4x4) off S1x1.size inb)).squeeze S_ hq).sem = dq 3 h k :=
  sem_at 54 _ h k off ho inb hq (dq 3 h k) (by show 6 + 16 * 3 + 4 * h.val + k.val = _; omega)

/-- The credit of one 64 × 512 block. -/
abbrev N : ℕ := (slot4 rsM 0 0).view.dmaCredit
theorem N_pos : 0 < N := View.dmaCredit_pos _ (by decide)
theorem N_slot4 (M : Memref sig .tc .vmem S4x4x64x512 .bf16) (h k : Fin 4) : (slot4 M h k).view.dmaCredit = N := rfl
theorem N_slot3 (h : Fin 4) : (slot3 h).view.dmaCredit = N := rfl

end Cert.MoeProof

end
-- ==== Proof.Sched.lean ====
/-
# The exchange's contents and schedule

What every buffer holds at every hand-over, the schedule of the cells, what each device owes, and the levels.
-/
module

public import proofs.«01_k».proof.Proof.Proto

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- The five staged inputs of device `c`. -/
def in0 (c : Dev nD) : Vec F S1024x256 .bf16 := iblk m c 0 t0_0
def in1 (c : Dev nD) : Vec F S256x16 .bf16 := iblk m c 1 t0_0
def in2 (c : Dev nD) : Vec F S1024x1 .i32 := iblk m c 2 t0_0
def in3 (c : Dev nD) : Vec F S4x256x512 .bf16 := iblk m c 3 t0_0
def in4 (c : Dev nD) : Vec F S256x512 .bf16 := iblk m c 4 t0_0

/-- The device's number, as the kernel computes it. -/
abbrev vdev (c : Dev nD) : BitVec 32 := Scalar.remsi (Scalar.divsi (Dev.word c) 1#32) 4#32

theorem inbE (j : Fin 4) : ∀ a, (![j.val, 0, 0] : Fin 3 → Nat) a + S1x256x512.size a ≤ S4x256x512.size a := by
  revert j; decide
/-- Expert `j` of the device's block of experts, as loaded. -/
def ewAt (c : Dev nD) (j : Fin 4) : Vec F S1x256x512 .bf16 :=
  (Memref.whole cc0_stg3_0 : Memref sig .tc .vmem S4x256x512 .bf16).view.readAt (Elt F)
    (Rect.unit (s := S4x256x512) ![j.val, 0, 0] S1x256x512.size (inbE j)).toLoadRect (in3 m c)

/-- The router's probabilities on device `c`. -/
def probs (c : Dev nD) : FVec F S1024x16 .f32 := k0_pay2 (in0 m c) (in1 m c)

/-- The stacked left operand: the scaled tokens of the shared expert and of the four local experts. -/
def xsv (c : Dev nD) : FVec F S1024x1280 .bf16 :=
  k0_pay9 (vdev c) (k0_pay1 (in0 m c)) (k0_pay3 (in2 m c)) (k0_pay4 (probs m c) (in2 m c)) (k0_pay5 (k0_pay1 (in0 m c)))
    (k0_pay7 (vdev c) (probs m c) (in2 m c)) (k0_pay8 (vdev c) (probs m c) (in2 m c)) 4#32
/-- The stacked right operand: the shared expert above the four local experts. -/
def wst (c : Dev nD) : FVec F S1280x512 .bf16 :=
  k0_pay6 (in4 m c) (ewAt m c 0) (ewAt m c 1) (ewAt m c 2) (ewAt m c 3)

/-- Rows `256 k + 64 h …` of the left operand. -/
def xrows (c : Dev nD) (k h : Fin 4) : Vec F S64x1280 .bf16 := (xsM.access (rX k h)).read (Elt F) (xsv m c)
/-- Device `c`'s partial product for quarter `h` of device `k`'s rows. -/
def part (c : Dev nD) (k h : Fin 4) : FVec F S64x512 .f32 := k0_pay10 (wst m c) (xrows m c k h)
/-- The same, rounded for the copy. -/
def partB (c : Dev nD) (k h : Fin 4) : FVec F S64x512 .bf16 := truncf .bf16 (part m c k h) bitsLt_bf16_f32

/-- Quarter `h` of device `c`'s rows after the landings of devices `0 … j-1` were added to its own partial product. -/
def acc (c : Dev nD) (h : Fin 4) : ℕ → FVec F S64x512 .f32
  | 0 => part m c c h
  | j + 1 => if hj : j < 4 then (if (⟨j, hj⟩ : Fin 4) = c then acc c h j else addf (acc c h j) (extf .f32 (partB m ⟨j, hj⟩ c h) bitsLt_bf16_f32)) else acc c h j
/-- The sum over the devices. -/
def red (c : Dev nD) (h : Fin 4) : FVec F S64x512 .f32 := acc m c h 4
/-- The same, rounded for the copies. -/
def redB (c : Dev nD) (h : Fin 4) : FVec F S64x512 .bf16 := truncf .bf16 (red m c h) bitsLt_bf16_f32

/-- Quarter `h` of device `k`'s rows as device `c` stores it. -/
def outQ (c : Dev nD) (k h : Fin 4) : FVec F S64x512 .f32 :=
  if k = c then red m c h else extf .f32 (redB m k h) bitsLt_bf16_f32

/-! ## Shares of the gather staging slots -/

/-- Four shares that make the whole. -/
def qsh (k : Fin 4) : PosShare TreeShare :=
  match k with
  | 0 => fullShare.left.left
  | 1 => fullShare.left.right
  | 2 => fullShare.right.left
  | 3 => fullShare.right.right

/-! ## The schedule -/

/-- A slot of device `d` at any contents. -/
def slotAny (d : Dev nD) (M : Memref sig .tc .vmem S4x4x64x512 .bf16) (h k : Fin 4) : sProp 𝕄 :=
  iprop(∃ X, owns (d : Thread nD τ) (slot4 M h k) fullShare X)

/-- What device `d`'s unit on device `c`'s barrier hands over. -/
def barPay (c d : Dev nD) : sProp 𝕄 :=
  bigSep Finset.univ fun h : Fin 4 => iprop(slotAny d rsM h c ∗ slotAny d abM h c)

def rsSendPay (c : Dev nD) (h k : Fin 4) : sProp 𝕄 := owns (c : Thread nD τ) (slot4 sbM h k) fullShare (partB m c k h)
def rsRecvPay (c : Dev nD) (h k : Fin 4) : sProp 𝕄 := owns (c : Thread nD τ) (slot4 rsM h k) fullShare (partB m k c h)
def agSendPay (c : Dev nD) (h k : Fin 4) : sProp 𝕄 := owns (c : Thread nD τ) (slot3 h) (qsh k) (redB m c h)
def agRecvPay (c : Dev nD) (h k : Fin 4) : sProp 𝕄 := owns (c : Thread nD τ) (slot4 abM h k) fullShare (redB m k h)

def dPay (c : Dev nD) (a h k : Fin 4) : sProp 𝕄 :=
  match a with
  | 0 => rsSendPay m c h k
  | 1 => rsRecvPay m c h k
  | 2 => agSendPay m c h k
  | 3 => agRecvPay m c h k

instance barPay_storable (c d : Dev nD) : BI.Storable (upEmb : UEmb _ 𝕄) (barPay c d) := by
  unfold barPay slotAny; infer_instance
instance dPay_storable (c : Dev nD) (a h k : Fin 4) : BI.Storable (upEmb : UEmb _ 𝕄) (dPay m c a h k) := by
  unfold dPay rsSendPay rsRecvPay agSendPay agRecvPay
  split <;> infer_instance

def dutiesOf (g : GSem nD τ sig) (r : ℕ) : Finset (Fin 4) :=
  if r = 0 ∧ g.1.2 = .tc then
    match g.2 with
    | .reg _ => Finset.univ.erase g.1.1
    | .dma q => if (q : Fin 70).val < 6 then ∅ else if kOf q = g.1.1 then ∅ else {0}
  else ∅

def payOf (g : GSem nD τ sig) (d : Fin 4) : sProp 𝕄 :=
  match g.2 with
  | .reg _ => barPay g.1.1 d
  | .dma q => dPay m g.1.1 (aOf q) (hOf q) (kOf q)

def amtOf (g : GSem nD τ sig) : ℕ :=
  match g.2 with
  | .reg _ => 1
  | .dma _ => N

/-- Each cell has one round: the barrier a duty of one unit for each peer, a transfer semaphore one landing or departure. -/
def Rd : Rounds.Schedule (GSem nD τ sig) (Fin 4) 𝕄 where
  duties g r := dutiesOf g r
  unitless _ := False
  amount g _ _ := amtOf g
  payload g _ d := payOf m g d
  amount_pos g _ _ _ := by
    unfold amtOf; split
    · exact Nat.one_pos
    · exact N_pos

instance Rd_payload_storable (g : GSem nD τ sig) (r : ℕ) (d : Fin 4) :
    BI.Storable (upEmb : UEmb _ 𝕄) ((Rd (F := F) m).payload g r d) := by
  show BI.Storable upEmb (payOf m g d)
  unfold payOf; split <;> infer_instance

omit [FloatOps F] in
theorem dutiesOf_later (g : GSem nD τ sig) (r : ℕ) (hr : 1 ≤ r) : dutiesOf g r = ∅ := by
  unfold dutiesOf; exact if_neg fun h => by omega
theorem duties_later (g : GSem nD τ sig) : ∀ r, 1 ≤ r → (Rd (F := F) m).duties g r = ∅ := fun r hr => dutiesOf_later g r hr
theorem duties_bar (c : Dev nD) : (Rd (F := F) m).duties (barCell c) 0 = Finset.univ.erase c := by
  show dutiesOf (barCell c) 0 = _
  unfold dutiesOf; exact if_pos ⟨rfl, rfl⟩
theorem duties_d (c : Dev nD) (a h k : Fin 4) (hk : k ≠ c) : (Rd (F := F) m).duties (dCell c a h k) 0 = {0} := by
  show dutiesOf (dCell c a h k) 0 = _
  unfold dutiesOf; rw [if_pos ⟨rfl, rfl⟩]
  show (if (dq a h k : Fin 70).val < 6 then ∅ else if kOf (dq a h k) = c then ∅ else {0}) = _
  rw [if_neg (six_le_dq a h k), kOf_dq, if_neg hk]
theorem duties_diag (c : Dev nD) (a h : Fin 4) : ∀ r, 0 ≤ r → (Rd (F := F) m).duties (dCell c a h c) r = ∅ := by
  intro r _
  show dutiesOf (dCell c a h c) r = _
  unfold dutiesOf
  split
  · show (if (dq a h c : Fin 70).val < 6 then ∅ else if kOf (dq a h c) = c then ∅ else {0}) = _
    rw [if_neg (six_le_dq a h c), kOf_dq, if_pos rfl]
  · rfl

theorem amount_bar (c : Dev nD) (d : Fin 4) : (Rd (F := F) m).amount (barCell c) 0 d = 1 := rfl
theorem amount_d (c : Dev nD) (a h k : Fin 4) (d : Fin 4) : (Rd (F := F) m).amount (dCell c a h k) 0 d = N := rfl

theorem payload_bar (c : Dev nD) (d : Fin 4) : (Rd (F := F) m).payload (barCell c) 0 d = barPay c d := rfl
theorem payload_d (c : Dev nD) (a h k : Fin 4) (d : Fin 4) : (Rd (F := F) m).payload (dCell c a h k) 0 d = dPay m c a h k := by
  show dPay m c (aOf (dq a h k)) (hOf (dq a h k)) (kOf (dq a h k)) = _
  rw [aOf_dq, hOf_dq, kOf_dq]

theorem expect_bar (c : Dev nD) : (Rd (F := F) m).expect (barCell c) 0 = 3 := by
  unfold Schedule.expect Schedule.amountOf
  rw [duties_bar, Finset.sum_congr rfl fun d _ => amount_bar m c d, Finset.sum_const, Finset.card_erase_of_mem (Finset.mem_univ _)]
  rfl
theorem expect_d (c : Dev nD) (a h k : Fin 4) (hk : k ≠ c) : (Rd (F := F) m).expect (dCell c a h k) 0 = N := by
  unfold Schedule.expect Schedule.amountOf; rw [duties_d m c a h k hk, Finset.sum_singleton, amount_d]

theorem rest_bar (c : Dev nD) : bigSep ((Rd (F := F) m).duties (barCell c) 0 \ ∅) (fun d => (Rd (F := F) m).payload (barCell c) 0 d)
    = bigSep (Finset.univ.erase c) fun d => barPay (F := F) c d := by
  rw [Finset.sdiff_empty, duties_bar]; rfl
theorem rest_d (c : Dev nD) (a h k : Fin 4) (hk : k ≠ c) :
    bigSep ((Rd (F := F) m).duties (dCell c a h k) 0 \ ∅) (fun d => (Rd (F := F) m).payload (dCell c a h k) 0 d) = dPay m c a h k := by
  rw [Finset.sdiff_empty, duties_d m c a h k hk, bigSep_singleton, payload_d]

/-! ## What is owed, and the levels -/

/-- Position of slot `(h, k)` in program order. -/
abbrev pos (i : Fin 4 × Fin 4) : ℕ := 4 * i.1.val + i.2.val
/-- Order in which device `c` signals its peers. -/
def ord (c d : Dev nD) : ℕ := (d.val + 3 - c.val) % 4

/-- Barrier units device `c` still owes after `n` signals. -/
def OB (c : Dev nD) (n : ℕ) : CellTallies nD τ sig Unit :=
  ∑ d : Dev nD, if n ≤ ord c d ∧ d ≠ c then tallyAt (barCell d) () 1 else 0
/-- Landings (of the reduce phase, `a = 1`, or the gather phase, `a = 3`) device `c` still owes after its first `n` blocks. -/
def OD (a : Fin 4) (c : Dev nD) (n : ℕ) : CellTallies nD τ sig Unit :=
  ∑ i : Fin 4 × Fin 4, if n ≤ pos i ∧ i.2 ≠ c then tallyAt (dCell i.2 a i.1 c) () N else 0

def O₀ (c : Dev nD) : CellTallies nD τ sig Unit := (OD 1 c 0 + OD 3 c 0) + OB c 0

def L (g : GSem nD τ sig) : Finset Unit := if g.1.2 = .tc then {()} else ∅
/-- The barrier below the reduce phase's landings, these below the gather phase's; everything else at the bottom. -/
def lv (g : GSem nD τ sig) (_ : Unit) : ℕ :=
  match g.2 with
  | .reg _ => 1
  | .dma q => if (q : Fin 70).val < 6 then 0 else if aOf q = 1 then 2 else if aOf q = 3 then 3 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_d (c : Dev nD) (a h k : Fin 4) : lv (dCell c a h k) () = if a = 1 then 2 else if a = 3 then 3 else 0 := by
  show (if (dq a h k : Fin 70).val < 6 then 0 else if aOf (dq a h k) = 1 then 2 else if aOf (dq a h k) = 3 then 3 else 0) = _
  rw [if_neg (six_le_dq a h k), aOf_dq]

omit [FloatOps F] in
theorem OD_pos {a : Fin 4} {c : Dev nD} {n : ℕ} {g : GSem nD τ sig} {u : Unit} (h : 0 < OD a c n g u) :
    ∃ i : Fin 4 × Fin 4, g = dCell i.2 a i.1 c := by
  unfold OD at h
  rw [Finset.sum_apply, Finsupp.finset_sum_apply] at h
  obtain ⟨i, -, hi⟩ := Finset.exists_ne_zero_of_sum_ne_zero (Nat.pos_iff_ne_zero.mp h)
  refine ⟨i, ?_⟩
  by_contra hg
  apply hi
  split
  · rw [tallyAt_apply, if_neg fun h' => hg h'.1]
  · rfl
omit [FloatOps F] in
theorem OB_pos {c : Dev nD} {n : ℕ} {g : GSem nD τ sig} {u : Unit} (h : 0 < OB c n g u) : ∃ d : Dev nD, g = barCell d := by
  unfold OB at h
  rw [Finset.sum_apply, Finsupp.finset_sum_apply] at h
  obtain ⟨i, -, hi⟩ := Finset.exists_ne_zero_of_sum_ne_zero (Nat.pos_iff_ne_zero.mp h)
  refine ⟨i, ?_⟩
  by_contra hg
  apply hi
  split
  · rw [tallyAt_apply, if_neg fun h' => hg h'.1]
  · rfl

/-- One block's landing leaves what is owed. -/
theorem OD_peel (a : Fin 4) (c : Dev nD) (h k : Fin 4) (n : ℕ) (hn : n = 4 * h.val + k.val) :
    OD a c n = OD a c (n + 1) + (if k ≠ c then tallyAt (dCell k a h c) () N else 0) := by
  subst hn
  unfold OD
  rw [← Finset.sum_erase_add _ _ (Finset.mem_univ (h, k)), ← Finset.sum_erase_add _ _ (Finset.mem_univ (h, k))]
  have e1 : (∑ i ∈ Finset.univ.erase (h, k), if 4 * h.val + k.val ≤ pos i ∧ i.2 ≠ c then (tallyAt (dCell i.2 a i.1 c) () N : CellTallies nD τ sig Unit) else 0)
      = ∑ i ∈ Finset.univ.erase (h, k), if 4 * h.val + k.val + 1 ≤ pos i ∧ i.2 ≠ c then (tallyAt (dCell i.2 a i.1 c) () N : CellTallies nD τ sig Unit) else 0 := by
    refine Finset.sum_congr rfl fun i hi => ?_
    have hne : i ≠ (h, k) := (Finset.mem_erase.mp hi).1
    have : (4 * h.val + k.val ≤ pos i ∧ i.2 ≠ c) ↔ (4 * h.val + k.val + 1 ≤ pos i ∧ i.2 ≠ c) := by
      have h2 := i.2.isLt; have h3 := k.isLt
      have : 4 * h.val + k.val ≠ pos i := fun e => hne (by
        unfold pos at e
        exact Prod.ext (Fin.ext (show i.1.val = h.val by omega)) (Fin.ext (show i.2.val = k.val by omega)))
      constructor <;> rintro ⟨h1, h2⟩ <;> exact ⟨by omega, h2⟩
    rw [if_congr this rfl rfl]
  rw [e1]
  have e2 : ¬ (4 * h.val + k.val + 1 ≤ pos (h, k) ∧ (h, k).2 ≠ c) := fun h' => by have := h'.1; unfold pos at this; simp only at this; omega
  have e3 : (4 * h.val + k.val ≤ pos (h, k) ∧ (h, k).2 ≠ c) ↔ k ≠ c := ⟨fun h' => h'.2, fun h' => ⟨le_refl _, h'⟩⟩
  rw [if_neg e2, add_zero, if_congr e3 rfl rfl]

theorem OD_end (a : Fin 4) (c : Dev nD) : OD a c 16 = 0 := by
  unfold OD
  refine Finset.sum_eq_zero fun i _ => if_neg fun h => ?_
  have h1 := i.1.isLt; have h2 := i.2.isLt; have := h.1; unfold pos at this; omega

theorem OB_peel (c d : Dev nD) (n : ℕ) (hn : n = ord c d) (hd : d ≠ c) : OB c n = OB c (n + 1) + tallyAt (barCell d) () 1 := by
  subst hn
  unfold OB
  rw [← Finset.sum_erase_add _ _ (Finset.mem_univ d), ← Finset.sum_erase_add _ _ (Finset.mem_univ d)]
  have e1 : (∑ i ∈ Finset.univ.erase d, if ord c d ≤ ord c i ∧ i ≠ c then (tallyAt (barCell i) () 1 : CellTallies nD τ sig Unit) else 0)
      = ∑ i ∈ Finset.univ.erase d, if ord c d + 1 ≤ ord c i ∧ i ≠ c then (tallyAt (barCell i) () 1 : CellTallies nD τ sig Unit) else 0 := by
    refine Finset.sum_congr rfl fun i hi => ?_
    have hne : i ≠ d := (Finset.mem_erase.mp hi).1
    have : (ord c d ≤ ord c i ∧ i ≠ c) ↔ (ord c d + 1 ≤ ord c i ∧ i ≠ c) := by
      have : ord c d ≠ ord c i := by clear hd hi; revert c d i; decide
      constructor <;> rintro ⟨h1, h2⟩ <;> exact ⟨by omega, h2⟩
    rw [if_congr this rfl rfl]
  have e2 : ¬ (ord c d + 1 ≤ ord c d ∧ d ≠ c) := fun h' => by have := h'.1; omega
  have e3 : (ord c d ≤ ord c d ∧ d ≠ c) := ⟨le_refl _, hd⟩
  rw [e1, if_neg e2, add_zero, if_pos e3]
theorem OB_end (c : Dev nD) : OB c 3 = 0 := by
  unfold OB
  refine Finset.sum_eq_zero fun i _ => if_neg fun h => ?_
  revert h; revert c i; decide

theorem mayWait_of (c : Dev nD) (sm : SemLoc sig) (O : CellTallies nD τ sig Unit) (cut : ℕ)
    (h1 : lv ((c : Thread nD τ), sm) () ≤ cut)
    (h2 : ∀ g u, 0 < O g u → L g = {()} ∧ cut < lv g ()) :
    (levAts L lv : sProp 𝕄) ⊢ MayWait (c : Thread nD τ) sm () O :=
  MayOwe.of_cut (L := L) (lev := lv) cut (fun p hp => by rw [Finset.mem_singleton.mp hp, L_tc]; exact Finset.mem_singleton_self _)
    (fun g u hg => by rw [(h2 g u hg).1]; exact Finset.mem_singleton_self _)
    (fun p hp => by rw [Finset.mem_singleton.mp hp]; exact h1)
    (fun g u hg => (h2 g u hg).2)

omit [FloatOps F] in
theorem add_pos_cases {A B : CellTallies nD τ sig Unit} {g : GSem nD τ sig} {u : Unit} (h : 0 < (A + B) g u) : 0 < A g u ∨ 0 < B g u := by
  rw [Pi.add_apply, Finsupp.add_apply] at h; omega

/-- At its barrier wait a device owes landings only. -/
theorem mayWait_bar (c : Dev nD) (n n' : ℕ) : (levAts L lv : sProp 𝕄) ⊢ MayWait (c : Thread nD τ) (.reg barS) () (OD 1 c n + OD 3 c n') :=
  mayWait_of c _ _ 1 (le_of_eq (lv_bar c)) fun g u hg => by
    rcases add_pos_cases hg with hg | hg <;> obtain ⟨i, rfl⟩ := OD_pos hg <;> refine ⟨L_tc _ _, ?_⟩ <;> rw [lv_d] <;> decide
/-- At a reduce-phase wait a device owes gather-phase landings only. -/
theorem mayWait_rs (c : Dev nD) (h k : Fin 4) (n : ℕ) : (levAts L lv : sProp 𝕄) ⊢ MayWait (c : Thread nD τ) (.dma (dq 1 h k)) () (OD 3 c n) :=
  mayWait_of c _ _ 2 (le_of_eq (lv_d c 1 h k)) fun g u hg => by
    obtain ⟨i, rfl⟩ := OD_pos hg; refine ⟨L_tc _ _, ?_⟩; rw [lv_d]; decide
/-- At a wait of the pipeline's own a device owes units and landings. -/
theorem mayWait_stage (c : Dev nD) (q : DmaSem sig) (hq : (q : Fin 70).val < 6) (O : CellTallies nD τ sig Unit) (hO : O = O₀ c ∨ O = 0) :
    (levAts L lv : sProp 𝕄) ⊢ MayWait (c : Thread nD τ) (.dma q) () O := by
  rcases hO with rfl | rfl
  · refine mayWait_of c _ _ 0 (le_of_eq (if_pos hq)) fun g u hg => ?_
    unfold O₀ at hg
    rcases add_pos_cases hg with hg | hg
    · rcases add_pos_cases hg with hg | hg <;> obtain ⟨i, rfl⟩ := OD_pos hg <;> refine ⟨L_tc _ _, ?_⟩ <;> rw [lv_d] <;> decide
    · obtain ⟨d, rfl⟩ := OB_pos hg; exact ⟨L_tc _ _, by rw [lv_bar]; decide⟩
  · rw [MayWait_zero]; iintro -; iempintro

end Cert.MoeProof

end
-- ==== Proof.State.lean ====
/-
# The state of the body

What a device holds between two blocks of the body, as families over the quarters and the devices, and the
rules by which a block changes one member.
-/
module

public import proofs.«01_k».proof.Proof.Sched
public import Idealize.ShloMosaic.Lib.Pipeline.Value

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The body's weakest precondition on device `c`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Cells by index -/

/-- A cell of a device: its barrier, or a transfer semaphore. -/
abbrev CI : Type := Option (Fin 4 × Fin 4 × Fin 4)
def kcell : Dev nD × CI → GSem nD τ sig
  | (c, none) => barCell c
  | (c, some (a, h, k)) => dCell c a h k

variable (K : Dev nD × CI → ℕ)

/-- Every cell's invariant, and that every cell has reached round 0. -/
def records : sProp 𝕄 :=
  iprop((bigSep Finset.univ fun i : Dev nD × CI => cellInv ER (Rd m) (K i) (kcell i)) ∗ bigSep Finset.univ fun i : Dev nD × CI => reached ER (kcell i) 0)

instance records_persistent : BI.Persistent (records m K) := by unfold records; infer_instance

theorem inv_bar (c : Dev nD) : records m K ⊢ cellInv ER (Rd m) (K (c, none)) (barCell c) := by
  unfold records; exact sep_elim_left.trans (bigSep_elim (Finset.mem_univ (c, (none : CI))))
theorem inv_d (c : Dev nD) (a h k : Fin 4) : records m K ⊢ cellInv ER (Rd m) (K (c, some (a, h, k))) (dCell c a h k) := by
  unfold records; exact sep_elim_left.trans (bigSep_elim (Finset.mem_univ (c, (some (a, h, k) : CI))))
theorem reached_bar (c : Dev nD) : records m K ⊢ reached ER (barCell c) 0 := by
  unfold records; exact sep_elim_right.trans (bigSep_elim (Finset.mem_univ (c, (none : CI))))
theorem reached_d (c : Dev nD) (a h k : Fin 4) : records m K ⊢ reached ER (dCell c a h k) 0 := by
  unfold records; exact sep_elim_right.trans (bigSep_elim (Finset.mem_univ (c, (some (a, h, k) : CI))))

/-! ## Peeling one member off a family -/

/-- Two families that agree off `i` are their members at `i` next to one and the same rest. -/
theorem peel {I : Type} [Fintype I] [DecidableEq I] (i : I) {f g : I → sProp 𝕄} (h : ∀ j, j ≠ i → f j = g j) :
    ∃ R : sProp 𝕄, bigSep Finset.univ f = iprop(f i ∗ R) ∧ bigSep Finset.univ g = iprop(g i ∗ R) :=
  ⟨bigSep (Finset.univ.erase i) f, bigSep_univ_at f i, by
    rw [bigSep_univ_at g i, bigSep_congr (s := Finset.univ.erase i) (Φ := g) (Ψ := f) fun j hj => (h j (Finset.mem_erase.mp hj).1).symm]⟩

theorem pos_lt_succ {i j : Fin 4 × Fin 4} {n : ℕ} (hn : n = pos i) (h : j ≠ i) : (pos j < n + 1) = (pos j < n) := by
  have h1 := i.2.isLt; have h2 := j.2.isLt
  have : n ≠ pos j := fun e => h (by
    rw [hn] at e; unfold pos at e
    exact Prod.ext (Fin.ext (show j.1.val = i.1.val by omega)) (Fin.ext (show j.2.val = i.2.val by omega)))
  exact propext ⟨fun h => by omega, fun h => by omega⟩

/-! ## The state of the body -/

abbrev posAt (c : Dev nD) (a h k : Fin 4) (R : ℕ) : sProp 𝕄 := atPos ER (dCell c a h k) R ∅ 0

/-- Quarter `h`, device `k` of the reduce staging buffer: before the block (with the peer's slot and the two tokens), sent, and back. -/
def fA (c : Dev nD) (a f : ℕ) (i : Fin 4 × Fin 4) : sProp 𝕄 :=
  if i.2 = c then iprop(posAt c 0 i.1 i.2 0 ∗ slotAny c sbM i.1 i.2)
  else if pos i < f then iprop(posAt c 0 i.1 i.2 1 ∗ slotAny c sbM i.1 i.2)
  else if pos i < a then iprop(posAt c 0 i.1 i.2 0 ∗ cred (tallyAt (dCell c 0 i.1 i.2) () N))
  else iprop(posAt c 0 i.1 i.2 0 ∗ slotAny c sbM i.1 i.2 ∗ slotAny i.2 rsM i.1 c
    ∗ dutyTok ER (dCell c 0 i.1 i.2) 0 0 ∗ dutyTok ER (dCell i.2 1 i.1 c) 0 0)

/-- The landing of device `k`'s partial product: awaited, or here. -/
def fB (c : Dev nD) (b : ℕ) (i : Fin 4 × Fin 4) : sProp 𝕄 :=
  if i.2 = c then iprop(posAt c 1 i.1 i.2 0 ∗ slotAny c rsM i.1 i.2)
  else if pos i < b then iprop(posAt c 1 i.1 i.2 1 ∗ slotAny c rsM i.1 i.2)
  else iprop(posAt c 1 i.1 i.2 0 ∗ cred (tallyAt (dCell c 1 i.1 i.2) () N))

/-- The copy of the sum to device `k`: before, sent, and complete. -/
def fC (c : Dev nD) (cc f : ℕ) (i : Fin 4 × Fin 4) : sProp 𝕄 :=
  if i.2 = c then posAt c 2 i.1 i.2 0
  else if pos i < f then posAt c 2 i.1 i.2 1
  else if pos i < cc then iprop(posAt c 2 i.1 i.2 0 ∗ cred (tallyAt (dCell c 2 i.1 i.2) () N))
  else iprop(posAt c 2 i.1 i.2 0 ∗ slotAny i.2 abM i.1 c
    ∗ dutyTok ER (dCell c 2 i.1 i.2) 0 0 ∗ dutyTok ER (dCell i.2 3 i.1 c) 0 0)

/-- The share of gather staging slot `h` that goes with the copy to device `k`. -/
def fS1 (c : Dev nD) (cc f : ℕ) (i : Fin 4 × Fin 4) : sProp 𝕄 :=
  if i.2 ≠ c ∧ pos i < cc ∧ ¬ pos i < f then iprop(emp) else owns (c : Thread nD τ) (slot3 i.1) (qsh i.2) (redB m c i.1)
/-- Gather staging slot `h`: at any contents, or its four shares. -/
def fS (c : Dev nD) (g cc f : ℕ) (h : Fin 4) : sProp 𝕄 :=
  if h.val < g then bigSep Finset.univ fun k : Fin 4 => fS1 m c cc f (h, k) else iprop(∃ X, owns (c : Thread nD τ) (slot3 h) fullShare X)

/-- The landing of device `k`'s sum: awaited, or here. -/
def fE (c : Dev nD) (e : ℕ) (i : Fin 4 × Fin 4) : sProp 𝕄 :=
  if i.2 = c then iprop(posAt c 3 i.1 i.2 0 ∗ slotAny c abM i.1 i.2)
  else if pos i < e then iprop(posAt c 3 i.1 i.2 1 ∗ slotAny c abM i.1 i.2)
  else iprop(posAt c 3 i.1 i.2 0 ∗ cred (tallyAt (dCell c 3 i.1 i.2) () N))

/-- The accumulator: the quarters the body has reached hold the sums so far. -/
def redSt (c : Dev nD) (r b : ℕ) : sProp 𝕄 :=
  iprop(∃ f : Buf (Elt F) ((c : Thread nD τ).loc cc0_scratch2),
    ⌜∀ h : Fin 4, 4 * h.val + c.val < r → (redM.access (rR h)).read (Elt F) f = acc m c h (min 4 (b - 4 * h.val))⌝ ∗ ((c : Thread nD τ).loc cc0_scratch2) ↦{fullShare} f)

/-- The result: device `c`'s own rows once stored, the others as they land. -/
def outSt (c : Dev nD) (o : Prop) (e : ℕ) : sProp 𝕄 :=
  iprop(∃ f : Buf (Elt F) ((c : Thread nD τ).loc cc0_stg5_0),
    ⌜∀ k h : Fin 4, (if k = c then o else pos (h, k) < e) → (outM.access (rO k h)).read (Elt F) f = outQ m c k h⌝
      ∗ ((c : Thread nD τ).loc cc0_stg5_0) ↦{fullShare} f)

def xsSt (c : Dev nD) : sProp 𝕄 := ((c : Thread nD τ).loc cc0_scratch0) ↦{fullShare} (show Buf (Elt F) ((c : Thread nD τ).loc cc0_scratch0) from xsv m c)

def owesSt (c : Dev nD) (a cc : ℕ) : sProp 𝕄 := iprop(∃ W, owes (c : Thread nD τ) (OD 1 c a + OD 3 c cc) W)

/-- Everything a device holds between its barrier and its end; `R` is carried along. -/
def St (R : sProp 𝕄) (c : Dev nD) (a r b g cc : ℕ) (o : Prop) (e f : ℕ) : sProp 𝕄 :=
  iprop((records m K ∗ levAts L lv) ∗ xsSt m c
    ∗ bigSep Finset.univ (fA c a f) ∗ redSt m c r b ∗ bigSep Finset.univ (fB c b) ∗ bigSep Finset.univ (fC c cc f)
    ∗ bigSep Finset.univ (fS m c g cc f) ∗ outSt m c o e ∗ bigSep Finset.univ (fE c e) ∗ owesSt c a cc ∗ R)

/-! ## Memory rules at a slot -/

section Slot

/-- A load through slot `(h, k)`'s rectangle returns the slot's contents, reshaped. -/
theorem load_slot4 {α : Type} {Qa : α → sProp 𝕄} (c : Dev nD) (M : Memref sig .tc .vmem S4x4x64x512 .bf16) (h k : Fin 4) (q : PosShare TreeShare)
    (X : Vec F S64x512 .bf16) {hl : M.view.LoadsAt (r4 h k).toLoadRect} (kk : Vec F S1x1x64x512 .bf16 → Prog (TpuEff nD τ sig (Elt F) Λ₀ .tc) α) :
    owns (c : Thread nD τ) (slot4 M h k) q X
      ⊢ iprop((∀ Y : Vec F S1x1x64x512 .bf16, ⌜shapeCast S64x512 Y shapeCasts_S1x1x64x512_S64x512 = X⌝
          -∗ owns (c : Thread nD τ) (slot4 M h k) q X -∗ WP c (kk Y) Qa)
        -∗ WP c (.op (.load M (r4 h k).toLoadRect hl) kk) Qa) := by
  unfold owns
  iintro ⟨%f, %hf, Hp⟩ Hk
  have hS : (M.access (r4 h k)).set ⊆ (slot4 M h k).view.set := le_of_eq (View.set_reshape _ _).symm
  iapply (wp_load_rect 𝒱₀ (c : Thread nD τ) none Set.univ (m := M) (r := r4 h k) hS) $$ Hp
  iintro Hp
  iapply Hk $$ [] [Hp]
  · ipureintro; exact hf
  · iexists f; isplitr; · ipureintro; exact hf
    iexact Hp

/-- A store of a whole block through slot `(h, k)`'s rectangle. -/
theorem store_slot4 {α : Type} {Qa : α → sProp 𝕄} (c : Dev nD) (M : Memref sig .tc .vmem S4x4x64x512 .bf16) (h k : Fin 4)
    (X : Vec F S64x512 .bf16) (w : Vec F S1x1x64x512 .bf16) (hw : w = shapeCast (α := Elt F .bf16) S1x1x64x512 X shapeCasts_S64x512_S1x1x64x512)
    {hx : (M.access (r4 h k)).Stores Finset.univ} {hm : (Finset.univ : Finset S1x1x64x512.Idx) = Finset.univ ∨ ∀ a, (r4 h k).stride a = 1}
    (kk : PUnit → Prog (TpuEff nD τ sig (Elt F) Λ₀ .tc) α) :
    slotAny c M h k
      ⊢ iprop((owns (c : Thread nD τ) (slot4 M h k) fullShare X -∗ WP c (kk ⟨⟩) Qa)
        -∗ WP c (.op (.store M (r4 h k) w Finset.univ hx hm) kk) Qa) := by
  subst hw
  unfold slotAny owns
  iintro ⟨%X0, %f, -, Hp⟩ Hk
  iapply (wp_store 𝒱₀ (c : Thread nD τ) none Set.univ (m := M) (r := r4 h k) (Mk := Finset.univ) (by
    show (M.access (r4 h k)).set ⊆ (slot4 M h k).view.set
    exact le_of_eq (View.set_reshape _ _).symm)) $$ Hp
  iintro Hp
  iapply Hk
  iexists _; isplitr [Hp]; swap; · iexact Hp
  ipureintro
  show shapeCast S64x512 ((M.access (r4 h k)).read (Elt F) _) shapeCasts_S1x1x64x512_S64x512 = X
  rw [View.read_write_univ]
  exact shapeCast_shapeCast _ _ _

/-- The same two rules at a gather staging slot. -/
theorem load_slot3 {α : Type} {Qa : α → sProp 𝕄} (c : Dev nD) (h : Fin 4) (q : PosShare TreeShare)
    (X : Vec F S64x512 .bf16) {hl : agM.view.LoadsAt (r3 h).toLoadRect} (kk : Vec F S1x64x512 .bf16 → Prog (TpuEff nD τ sig (Elt F) Λ₀ .tc) α) :
    owns (c : Thread nD τ) (slot3 h) q X
      ⊢ iprop((∀ Y : Vec F S1x64x512 .bf16, owns (c : Thread nD τ) (slot3 h) q X -∗ WP c (kk Y) Qa)
        -∗ WP c (.op (.load agM (r3 h).toLoadRect hl) kk) Qa) := by
  unfold owns
  iintro ⟨%f, %hf, Hp⟩ Hk
  have hS : (agM.access (r3 h)).set ⊆ (slot3 h).view.set := le_of_eq (View.set_reshape _ _).symm
  iapply (wp_load_rect 𝒱₀ (c : Thread nD τ) none Set.univ (m := agM) (r := r3 h) hS) $$ Hp
  iintro Hp
  iapply Hk
  iexists f; isplitr; · ipureintro; exact hf
  iexact Hp
theorem store_slot3 {α : Type} {Qa : α → sProp 𝕄} (c : Dev nD) (h : Fin 4)
    (X : Vec F S64x512 .bf16) (w : Vec F S1x64x512 .bf16) (hw : w = shapeCast (α := Elt F .bf16) S1x64x512 X shapeCasts_S64x512_S1x64x512)
    {hx : (agM.access (r3 h)).Stores Finset.univ} {hm : (Finset.univ : Finset S1x64x512.Idx) = Finset.univ ∨ ∀ a, (r3 h).stride a = 1}
    (kk : PUnit → Prog (TpuEff nD τ sig (Elt F) Λ₀ .tc) α) (X0 : Vec F S64x512 .bf16) :
    owns (c : Thread nD τ) (slot3 h) fullShare X0
      ⊢ iprop((owns (c : Thread nD τ) (slot3 h) fullShare X -∗ WP c (kk ⟨⟩) Qa)
        -∗ WP c (.op (.store agM (r3 h) w Finset.univ hx hm) kk) Qa) := by
  subst hw
  unfold owns
  iintro ⟨%f, -, Hp⟩ Hk
  iapply (wp_store 𝒱₀ (c : Thread nD τ) none Set.univ (m := agM) (r := r3 h) (Mk := Finset.univ) (by
    show (agM.access (r3 h)).set ⊆ (slot3 h).view.set
    exact le_of_eq (View.set_reshape _ _).symm)) $$ Hp
  iintro Hp
  iapply Hk
  iexists _; isplitr [Hp]; swap; · iexact Hp
  ipureintro
  show shapeCast S64x512 ((agM.access (r3 h)).read (Elt F) _) shapeCasts_S1x64x512_S64x512 = X
  rw [View.read_write_univ]
  exact shapeCast_shapeCast _ _ _
end Slot

/-! ## Rows of the two accumulators -/

/-- A store of quarter `h` of the accumulator leaves the other quarters. -/
theorem red_write (c : Dev nD) (f : Buf (Elt F) ((c : Thread nD τ).loc cc0_scratch2)) (w : Vec F S64x512 .f32) (h h' : Fin 4) :
    (redM.access (rR h')).read (Elt F) ((redM.access (rR h)).write (Elt F) f w Finset.univ) = if h' = h then w else (redM.access (rR h')).read (Elt F) f := by
  split
  · next e => subst e; exact View.read_write_univ _ _
  · next e =>
    refine View.read_slice_write_slice_of_disjoint (v := redM.view) (rR h') (rR h) f w Finset.univ ?_
    exact View.disjoint_slice_of_sep redM.view (rR h') (rR h) 0 rfl rfl (by
      show 64 * h'.val + 64 ≤ 64 * h.val ∨ 64 * h.val + 64 ≤ 64 * h'.val
      have : h'.val ≠ h.val := fun e' => e (Fin.ext e')
      omega)

/-- A store of 64 rows of the result leaves the others. -/
theorem out_write (c : Dev nD) (f : Buf (Elt F) ((c : Thread nD τ).loc cc0_stg5_0)) (w : Vec F S64x512 .f32) (k h k' h' : Fin 4) :
    (outM.access (rO k' h')).read (Elt F) ((outM.access (rO k h)).write (Elt F) f w Finset.univ)
      = if k' = k ∧ h' = h then w else (outM.access (rO k' h')).read (Elt F) f := by
  split
  · next e => obtain ⟨rfl, rfl⟩ := e; exact View.read_write_univ _ _
  · next e =>
    refine View.read_slice_write_slice_of_disjoint (v := outM.view) (rO k' h') (rO k h) f w Finset.univ ?_
    exact View.disjoint_slice_of_sep outM.view (rO k' h') (rO k h) 0 rfl rfl (by
      show 256 * k'.val + 64 * h'.val + 64 ≤ 256 * k.val + 64 * h.val ∨ 256 * k.val + 64 * h.val + 64 ≤ 256 * k'.val + 64 * h'.val
      have h1 := h.isLt; have h2 := h'.isLt
      have : ¬ (k'.val = k.val ∧ h'.val = h.val) := fun e' => e ⟨Fin.ext e'.1, Fin.ext e'.2⟩
      omega)

/-- The rows of device `c` as one block of 256. -/
theorem inbOw (c : Fin 4) : ∀ a, (![256 * c.val, 0] : Fin 2 → Nat) a + S256x512.size a ≤ S1024x512.size a := by
  revert c; decide
abbrev rOw (c : Dev nD) : Rect S1024x512 := Rect.unit (s := S1024x512) ![256 * c.val, 0] S256x512.size (inbOw c)
/-- The whole accumulator, as one rectangle. -/
abbrev rRw : Rect S256x512 := Rect.unit (s := S256x512) ![0, 0] S256x512.size inb_S256x512_S256x512_0_0

/-- Device `c`'s own rows of the result, stored at once from the accumulator. -/
theorem out_own (c : Dev nD) (f : Buf (Elt F) ((c : Thread nD τ).loc cc0_stg5_0)) (g : Buf (Elt F) ((c : Thread nD τ).loc cc0_scratch2)) (k h : Fin 4) :
    (outM.access (rO k h)).read (Elt F) ((outM.access (rOw c)).write (Elt F) f ((redM.access rRw).read (Elt F) g) Finset.univ)
      = if k = c then (redM.access (rR h)).read (Elt F) g else (outM.access (rO k h)).read (Elt F) f := by
  split
  · next e =>
    subst e
    funext i
    have hi : (outM.access (rO k h)).emb i = (outM.access (rOw k)).emb ((rR h).emb i) := by
      refine congrArg (outM.view.emb) (funext fun a => Fin.ext ?_)
      have h0 : (rO k h).emb i a = (rO k h).emb i a := rfl
      fin_cases a
      · show 256 * k.val + 64 * h.val + 1 * (i 0).val = 256 * k.val + 1 * (64 * h.val + 1 * (i 0).val)
        omega
      · show 0 + 1 * (i 1).val = 0 + 1 * (0 + 1 * (i 1).val)
        omega
    rw [View.read_apply, hi, ← View.read_apply, View.read_write_univ]
    show (redM.access rRw).read (Elt F) g ((rR h).emb i) = _
    rw [View.read_apply, View.read_apply]
    have hj : (redM.access rRw).emb ((rR h).emb i) = (redM.access (rR h)).emb i := by
      refine congrArg (redM.view.emb) (funext fun a => Fin.ext ?_)
      fin_cases a
      · show 0 + 1 * (64 * h.val + 1 * (i 0).val) = 64 * h.val + 1 * (i 0).val
        omega
      · show 0 + 1 * (0 + 1 * (i 1).val) = 0 + 1 * (i 1).val
        omega
    rw [hj]
  · next e =>
    refine View.read_slice_write_slice_of_disjoint (v := outM.view) (rO k h) (rOw c) f _ Finset.univ ?_
    exact View.disjoint_slice_of_sep outM.view (rO k h) (rOw c) 0 rfl rfl (by
      show 256 * k.val + 64 * h.val + 64 ≤ 256 * c.val ∨ 256 * c.val + 256 ≤ 256 * k.val + 64 * h.val
      have h1 := h.isLt
      have : k.val ≠ c.val := fun e' => e (Fin.ext e')
      omega)

/-! ## The accumulator's steps -/

theorem acc_self (c : Dev nD) (h : Fin 4) : acc m c h (c.val + 1) = acc m c h c.val := by
  show (if hj : c.val < 4 then _ else _) = _
  rw [dif_pos c.isLt, if_pos rfl]
theorem acc_other (c : Dev nD) (h k : Fin 4) (hk : k ≠ c) :
    acc m c h (k.val + 1) = addf (acc m c h k.val) (extf .f32 (partB m k c h) bitsLt_bf16_f32) := by
  show (if hj : k.val < 4 then _ else _) = _
  rw [dif_pos k.isLt, if_neg hk]

/-! ## The device's number -/

/-- "The device is `k`" and "the device is not `k`", as the body tests them. -/
theorem cond_eq (c k : Fin 4) : Iff (Scalar.cmpi .ne (Scalar.extui (Scalar.cmpi .eq (vdev c) (BitVec.ofNat 32 k.val))) 0#32 = 1#1) (k = c) := by
  revert c k; decide
theorem cond_ne (c k : Fin 4) : Iff (Scalar.cmpi .ne (Scalar.extui (Scalar.cmpi .ne (vdev c) (BitVec.ofNat 32 k.val))) 0#32 = 1#1) (k ≠ c) := by
  revert c k; decide

end Cert.MoeProof

end
-- ==== Proof.Steps.lean ====
/-
# The blocks of the body, one rule each

Each block of the body (a load of rows, a conditional store, a conditional copy, a conditional wait) as a rule on the state.
-/
module

public import proofs.«01_k».proof.Proof.State

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

/-! ## One copy, one wait -/

/-- A copy of one block to another device: the source goes with the departure's duty, the filled slot with the landing's. -/
theorem send_core {α : Type} {Qa : α → sProp 𝕄} (c d : Dev nD) (src dst : Memref sig .tc .vmem S64x512 .bf16) (q : PosShare TreeShare) (X : Vec F S64x512 .bf16)
    (a h k a' h' k' : Fin 4) (hk : k ≠ c) (hk' : k' ≠ d)
    (hsP : owns (c : Thread nD τ) src q X ⊢ dPay m c a h k) (hdP : owns (d : Thread nD τ) dst fullShare X ⊢ dPay m d a' h' k')
    (hN : dst.view.dmaCredit = N) (O : CellTallies nD τ sig Unit) (W : Waits sig Unit)
    {hsc : (dst : Memref sig (Dev.tc d : Thread nD τ).2.kind .vmem S64x512 .bf16).view.ref.isScScratch = false}
    {hsrc : src.view.WordExact} {hdst : dst.view.WordExact}
    {hsem : DmaTarget.Typed .vmem (.dma (dq a' h' k')) (.remote (Dev.tc d : Thread nD τ) dst (.dma (dq a h k)) hsc)}
    (kk : PUnit → Prog (TpuEff nD τ sig (Elt F) Λ₀ .tc) α) :
    iprop(records m K ∗ owns (c : Thread nD τ) src q X ∗ (∃ X', owns (d : Thread nD τ) dst fullShare X')
        ∗ owes (c : Thread nD τ) (O + tallyAt (dCell d a' h' k') () N) W
        ∗ dutyTok ER (dCell c a h k) 0 0 ∗ dutyTok ER (dCell d a' h' k') 0 0)
      ⊢ iprop(((cred (tallyAt (dCell c a h k) () N) ∗ owes (c : Thread nD τ) O W) -∗ WP c (kk ⟨⟩) Qa)
          -∗ WP c (.op (.enqueueDma src (.remote (Dev.tc d : Thread nD τ) dst (.dma (dq a h k)) hsc) (.dma (dq a' h' k')) hsrc hdst hsem) kk) Qa) := by
  unfold owns
  iintro ⟨#Hrec, ⟨%fs, %hfs, Hsrc⟩, ⟨%X', %fd, -, Hdst⟩, HO, Ht, Ht'⟩
  iapply (Rounds.wp_send_pointsTo 𝒱₀ ER (Rd m) (c : Thread nD τ) none (c' := (Dev.tc d : Thread nD τ)) (κ₁ := K (c, some (a, h, k))) (κ₂ := K (d, some (a', h', k')))
    (r₁ := 0) (r₂ := 0) (d₁ := 0) (d₂ := 0) (fs := fs) (fd := fd) (q := q) (sS := .dma (dq a h k)) (sem := .dma (dq a' h' k'))
    (by rw [duties_d m c a h k hk]; exact Finset.mem_singleton_self _) (by rw [duties_d m d a' h' k' hk']; exact Finset.mem_singleton_self _)
    () () N hN (amount_d m c a h k 0) (amount_d m d a' h' k' 0) O rfl (W := W)
    (by
      rw [payload_d]; refine BIBase.Entails.trans ?_ hsP; unfold owns
      iintro H; iexists fs; isplitr; · ipureintro; exact hfs
      iexact H)
    (by
      rw [payload_d]; refine BIBase.Entails.trans ?_ hdP; unfold owns
      iintro H; iexists _; isplitr [H]; swap; · iexact H
      ipureintro; rw [View.read_write_univ]; exact hfs)) $$ [Hsrc Hdst HO Ht Ht']
  isplitr; · iapply (inv_d m K c a h k); iexact Hrec
  isplitr; · iapply (inv_d m K d a' h' k'); iexact Hrec
  isplitl [Hsrc]; · iexact Hsrc
  isplitl [Hdst]; · iexact Hdst
  isplitl [HO]; · iexact HO
  isplitl [Ht]; · iexact Ht
  isplitr; · iapply (reached_d m K c a h k); iexact Hrec
  isplitl [Ht']; · iexact Ht'
  iapply (reached_d m K d a' h' k'); iexact Hrec

/-- A wait for one block on one of the device's own transfer semaphores. -/
theorem wait_core {α : Type} {Qa : α → sProp 𝕄} (c : Dev nD) (src dst : Memref sig .tc .vmem S64x512 .bf16)
    (a h k : Fin 4) (hk : k ≠ c) (hN : dst.view.dmaCredit = N) (O : CellTallies nD τ sig Unit) (W : Waits sig Unit)
    (hmw : (levAts L lv : sProp 𝕄) ⊢ MayWait (c : Thread nD τ) (.dma (dq a h k)) () O)
    {h1 : src.view.WordExact} {h2 : dst.view.WordExact}
    (kk : PUnit → Prog (TpuEff nD τ sig (Elt F) Λ₀ .tc) α) :
    iprop(records m K ∗ levAts L lv ∗ posAt c a h k 0 ∗ cred (tallyAt (dCell c a h k) () N) ∗ owes (c : Thread nD τ) O W)
      ⊢ iprop((((∃ W', owes (c : Thread nD τ) O W') ∗ posAt c a h k 1 ∗ dPay m c a h k) -∗ WP c (kk ⟨⟩) Qa)
          -∗ WP c (.op (.waitDma2 (dq a h k) src dst h1 h2) kk) Qa) := by
  iintro ⟨#Hrec, #Hlev, Hat, Hc, HO⟩ Hk
  iapply (Rounds.wp_wait_rest_token 𝒱₀ ER (Rd m) (c : Thread nD τ) none (κ := K (c, some (a, h, k))) (k' := dst.view.dmaCredit)
      (wpE_waitDma2_eq 𝒱₀ (c : Thread nD τ) none Set.univ) (Set.mem_univ _) () (O := O) (W := W) (R := 0) (m := 0) (T := ∅)
      (by rw [Nat.zero_add, hN, expect_d m c a h k hk])) $$ [Hat Hc HO]
  · isplitr; · iapply (inv_d m K c a h k); iexact Hrec
    isplitl [Hc]; · rw [hN]; iexact Hc
    isplitl [HO]; · iexact HO
    isplitr; · iapply hmw; iexact Hlev
    iexact Hat
  iintro ⟨HO, Hat, -, Hpay⟩
  ihave Hp := (Entails.of_eq (rest_d m c a h k hk)) $$ Hpay
  iapply Hk
  isplitl [HO]; · iexists _; iexact HO
  isplitl [Hat]; · iexact Hat
  iexact Hp

/-! ## The accumulator and the result, held whole -/

theorem load_red {α : Type} {Qa : α → sProp 𝕄} (c : Dev nD) (h : Fin 4) (f : Buf (Elt F) ((c : Thread nD τ).loc cc0_scratch2))
    {hl : redM.view.LoadsAt (rR h).toLoadRect} (kk : Vec F S64x512 .f32 → Prog (TpuEff nD τ sig (Elt F) Λ₀ .tc) α) :
    (((c : Thread nD τ).loc cc0_scratch2) ↦{fullShare} f)
      ⊢ iprop(((((c : Thread nD τ).loc cc0_scratch2) ↦{fullShare} f) -∗ WP c (kk ((redM.access (rR h)).read (Elt F) f)) Qa)
          -∗ WP c (.op (.load redM (rR h).toLoadRect hl) kk) Qa) :=
  wp_load_rect 𝒱₀ (c : Thread nD τ) none Set.univ (m := redM) (r := rR h) (Finset.subset_univ _)

theorem store_red {α : Type} {Qa : α → sProp 𝕄} (c : Dev nD) (h : Fin 4) (f : Buf (Elt F) ((c : Thread nD τ).loc cc0_scratch2)) (w : Vec F S64x512 .f32)
    {hx : (redM.access (rR h)).Stores Finset.univ} {hm : (Finset.univ : Finset S64x512.Idx) = Finset.univ ∨ ∀ a, (rR h).stride a = 1}
    (kk : PUnit → Prog (TpuEff nD τ sig (Elt F) Λ₀ .tc) α) :
    (((c : Thread nD τ).loc cc0_scratch2) ↦{fullShare} f)
      ⊢ iprop(((((c : Thread nD τ).loc cc0_scratch2) ↦{fullShare} ((redM.access (rR h)).write (Elt F) f w Finset.univ)) -∗ WP c (kk ⟨⟩) Qa)
          -∗ WP c (.op (.store redM (rR h) w Finset.univ hx hm) kk) Qa) :=
  wp_store 𝒱₀ (c : Thread nD τ) none Set.univ (m := redM) (r := rR h) (Mk := Finset.univ) (Finset.subset_univ _)

/-! ## Blocks that do nothing on the device's own index -/

/-- On other indices the count does not see a step at the device's own. -/
theorem pos_self {c h : Fin 4} {n : ℕ} (hn : n = 4 * h.val + c.val) {i : Fin 4 × Fin 4} (hi : ¬i.2 = c) : (pos i < n + 1) = (pos i < n) :=
  pos_lt_succ (i := (h, c)) hn fun e => hi (by rw [e])

/-- To reach a goal from a state: keep the rest of the run beside it. -/
theorem keep {P P' T T' : sProp 𝕄} (hk : P' ⊢ T) (h : iprop((P' -∗ T) ∗ P) ⊢ T') : P ⊢ T' := by
  refine BIBase.Entails.trans ?_ h
  iintro H; isplitr
  · iintro H; iapply hk; iexact H
  · iexact H

theorem St_a_self (R : sProp 𝕄) (c h : Fin 4) (n r b g cc : ℕ) (o : Prop) (e f : ℕ) (hn : n = 4 * h.val + c.val) :
    St m K R c n r b g cc o e f = St m K R c (n + 1) r b g cc o e f := by
  unfold St owesSt
  rw [OD_peel 1 c h c n hn, if_neg (fun h => h rfl), add_zero,
    bigSep_congr (s := Finset.univ) (Φ := fA (F := F) c n f) (Ψ := fA c (n + 1) f) fun i _ => by
      unfold fA
      by_cases hi : i.2 = c
      · rw [if_pos hi, if_pos hi]
      · rw [if_neg hi, if_neg hi]; simp only [pos_self hn hi]]

theorem St_cc_self (R : sProp 𝕄) (c h : Fin 4) (n a r b g : ℕ) (o : Prop) (e f : ℕ) (hn : n = 4 * h.val + c.val) :
    St m K R c a r b g n o e f = St m K R c a r b g (n + 1) o e f := by
  unfold St owesSt
  rw [OD_peel 3 c h c n hn, if_neg (fun h => h rfl), add_zero,
    bigSep_congr (s := Finset.univ) (Φ := fC (F := F) c n f) (Ψ := fC c (n + 1) f) fun i _ => by
      unfold fC
      by_cases hi : i.2 = c
      · rw [if_pos hi, if_pos hi]
      · rw [if_neg hi, if_neg hi]; simp only [pos_self hn hi],
    bigSep_congr (s := Finset.univ) (Φ := fS m c g n f) (Ψ := fS m c g (n + 1) f) fun h' _ => by
      unfold fS
      rw [bigSep_congr (s := Finset.univ) (Φ := fun k => fS1 m c n f (h', k)) (Ψ := fun k => fS1 m c (n + 1) f (h', k)) fun k _ => by
        unfold fS1
        by_cases hi : k = c
        · rw [if_neg (fun h => h.1 hi), if_neg (fun h => h.1 hi)]
        · simp only [pos_self (i := (h', k)) hn hi]]]

/-- `acc` does not move at the device's own index. -/
theorem redSt_b_self (c h : Fin 4) (n r : ℕ) (hn : n = 4 * h.val + c.val) : redSt m c r n = redSt m c r (n + 1) := by
  unfold redSt
  have : ∀ h' : Fin 4, acc m c h' (min 4 (n - 4 * h'.val)) = acc m c h' (min 4 (n + 1 - 4 * h'.val)) := by
    intro h'
    have h1 := c.isLt
    rcases lt_trichotomy h'.val h.val with hlt | heq | hgt
    · rw [show min 4 (n - 4 * h'.val) = min 4 (n + 1 - 4 * h'.val) by omega]
    · rw [show min 4 (n - 4 * h'.val) = c.val by omega, show min 4 (n + 1 - 4 * h'.val) = c.val + 1 by omega, acc_self]
    · rw [show min 4 (n - 4 * h'.val) = min 4 (n + 1 - 4 * h'.val) by omega]
  simp only [this]

theorem St_b_self (R : sProp 𝕄) (c h : Fin 4) (n a r g cc : ℕ) (o : Prop) (e f : ℕ) (hn : n = 4 * h.val + c.val) :
    St m K R c a r n g cc o e f = St m K R c a r (n + 1) g cc o e f := by
  unfold St
  rw [redSt_b_self m c h n r hn,
    bigSep_congr (s := Finset.univ) (Φ := fB (F := F) c n) (Ψ := fB c (n + 1)) fun i _ => by
      unfold fB
      by_cases hi : i.2 = c
      · rw [if_pos hi, if_pos hi]
      · rw [if_neg hi, if_neg hi]; simp only [pos_self hn hi]]

theorem St_e_self (R : sProp 𝕄) (c h : Fin 4) (n a r b g cc : ℕ) (o : Prop) (f : ℕ) (hn : n = 4 * h.val + c.val) :
    St m K R c a r b g cc o n f = St m K R c a r b g cc o (n + 1) f := by
  unfold St outSt
  have : ∀ k h' : Fin 4, (if k = c then o else pos (h', k) < n) = (if k = c then o else pos (h', k) < n + 1) := by
    intro k h'
    by_cases hi : k = c
    · rw [if_pos hi, if_pos hi]
    · rw [if_neg hi, if_neg hi]; simp only [pos_self (i := (h', k)) hn hi]
  simp only [this]
  rw [bigSep_congr (s := Finset.univ) (Φ := fE (F := F) c n) (Ψ := fE c (n + 1)) fun i _ => by
      unfold fE
      by_cases hi : i.2 = c
      · rw [if_pos hi, if_pos hi]
      · rw [if_neg hi, if_neg hi]; simp only [pos_self hn hi]]

theorem St_f_self (R : sProp 𝕄) (c h : Fin 4) (n a r b g cc : ℕ) (o : Prop) (e : ℕ) (hn : n = 4 * h.val + c.val) :
    St m K R c a r b g cc o e n = St m K R c a r b g cc o e (n + 1) := by
  unfold St
  rw [bigSep_congr (s := Finset.univ) (Φ := fA (F := F) c a n) (Ψ := fA c a (n + 1)) fun i _ => by
      unfold fA
      by_cases hi : i.2 = c
      · rw [if_pos hi, if_pos hi]
      · rw [if_neg hi, if_neg hi]; simp only [pos_self hn hi],
    bigSep_congr (s := Finset.univ) (Φ := fC (F := F) c cc n) (Ψ := fC c cc (n + 1)) fun i _ => by
      unfold fC
      by_cases hi : i.2 = c
      · rw [if_pos hi, if_pos hi]
      · rw [if_neg hi, if_neg hi]; simp only [pos_self hn hi],
    bigSep_congr (s := Finset.univ) (Φ := fS m c g cc n) (Ψ := fS m c g cc (n + 1)) fun h' _ => by
      unfold fS
      rw [bigSep_congr (s := Finset.univ) (Φ := fun k => fS1 m c cc n (h', k)) (Ψ := fun k => fS1 m c cc (n + 1) (h', k)) fun k _ => by
        unfold fS1
        by_cases hi : k = c
        · rw [if_neg (fun h => h.1 hi), if_neg (fun h => h.1 hi)]
        · simp only [pos_self (i := (h', k)) hn hi]]]

/-! ## The reduce phase's blocks -/

/-- A load of the left operand's rows for one block. -/
theorem step_x {α : Type} {Qa : α → sProp 𝕄} (R : sProp 𝕄) (c k h : Fin 4) {a r b g cc : ℕ} {o : Prop} {e f : ℕ}
    {hl : xsM.view.LoadsAt (rX k h).toLoadRect} {kk : Vec F S64x1280 .bf16 → Prog (TpuEff nD τ sig (Elt F) Λ₀ .tc) α}
    (hk : St m K R c a r b g cc o e f ⊢ WP c (kk (xrows m c k h)) Qa) :
    St m K R c a r b g cc o e f ⊢ WP c (Prog.lift (.load xsM (rX k h).toLoadRect hl) >>= kk) Qa := by
  simp only [Prog.lift, Prog.bind_op, Prog.bind_ret]
  refine keep hk ?_
  unfold St xsSt
  iintro ⟨Hk, H1, Hxs, H2⟩
  iapply (wp_load_rect 𝒱₀ (c : Thread nD τ) none Set.univ (m := xsM) (r := rX k h) (Finset.subset_univ _)) $$ Hxs
  iintro Hxs
  iapply Hk
  isplitl [H1]; · iexact H1
  isplitl [Hxs]; · iexact Hxs
  iexact H2

/-- On its own rows a device keeps its partial product. -/
theorem step_red {α : Type} {Qa : α → sProp 𝕄} (R : sProp 𝕄) (c k h : Fin 4) (n : ℕ) (hn : n = 4 * h.val + k.val) {a g cc : ℕ} {o : Prop} {e f : ℕ}
    {cond : BitVec 1} (hc : Iff (cond = 1#1) (k = c)) {w : Vec F S64x512 .f32} (hw : w = part m c k h)
    {hl : redM.view.LoadsAt (rR h).toLoadRect} {hx : (redM.access (rR h)).Stores Finset.univ}
    {hm : (Finset.univ : Finset S64x512.Idx) = Finset.univ ∨ ∀ a, (rR h).stride a = 1} {kk : Prog (TpuEff nD τ sig (Elt F) Λ₀ .tc) α}
    (hk : St m K R c a (n + 1) 0 g cc o e f ⊢ WP c kk Qa) :
    St m K R c a n 0 g cc o e f ⊢ WP c (if _h : cond = 1#1 then
        (Prog.lift (.load redM (rR h).toLoadRect hl) >>= fun _ => Prog.lift (.store redM (rR h) w Finset.univ hx hm) >>= fun _ => kk)
      else kk) Qa := by
  subst hw
  by_cases hkc : k = c
  · rw [dif_pos (hc.mpr hkc)]
    subst hkc
    simp only [Prog.lift, Prog.bind_op, Prog.bind_ret]
    unfold St redSt
    iintro ⟨H1, H2, H3, ⟨%f0, %hf0, Hred⟩, H4⟩
    iapply (load_red k h f0 _) $$ Hred; iintro Hred
    iapply (store_red k h f0 (part m k k h) _) $$ Hred; iintro Hred
    iapply hk
    unfold St redSt
    isplitl [H1]; · iexact H1
    isplitl [H2]; · iexact H2
    isplitl [H3]; · iexact H3
    isplitl [Hred]
    · iexists _; isplitr [Hred]; swap; · iexact Hred
      ipureintro
      intro h' hh'
      rw [red_write]
      split
      · next e => subst e; rw [Nat.zero_sub, Nat.min_zero]; rfl
      · next e => exact hf0 h' (by
          have : h'.val ≠ h.val := fun e' => e (Fin.ext e')
          omega)
    iexact H4
  · rw [dif_neg (fun h => hkc (hc.mp h))]
    refine BIBase.Entails.trans ?_ hk
    unfold St redSt
    iintro ⟨H1, H2, H3, ⟨%f0, %hf0, Hred⟩, H4⟩
    isplitl [H1]; · iexact H1
    isplitl [H2]; · iexact H2
    isplitl [H3]; · iexact H3
    isplitl [Hred]
    · iexists f0; isplitr [Hred]; swap; · iexact Hred
      ipureintro
      intro h' hh'
      exact hf0 h' (by
        have : k.val ≠ c.val := fun e' => hkc (Fin.ext e')
        have h1 := k.isLt; have h2 := c.isLt
        omega)
    iexact H4

/-- To every other device its partial product goes, rounded. -/
theorem step_send {α : Type} {Qa : α → sProp 𝕄} (R : sProp 𝕄) (c k h : Fin 4) (n : ℕ) (hn : n = 4 * h.val + k.val) {r b g cc : ℕ} {o : Prop} {e : ℕ}
    {cond : BitVec 1} (hc : Iff (cond = 1#1) (k ≠ c)) {w : Vec F S1x1x64x512 .bf16}
    (hw : w = shapeCast (α := Elt F .bf16) S1x1x64x512 (partB m c k h) shapeCasts_S64x512_S1x1x64x512)
    {hl : sbM.view.LoadsAt (r4 h k).toLoadRect} {hx : (sbM.access (r4 h k)).Stores Finset.univ}
    {hm : (Finset.univ : Finset S1x1x64x512.Idx) = Finset.univ ∨ ∀ a, (r4 h k).stride a = 1}
    {d : cond = 1#1 → Dev nD} (hd : ∀ hh, d hh = k)
    {dst : cond = 1#1 → Memref sig .tc .vmem S64x512 .bf16} (hdst : ∀ hh, dst hh = slot4 rsM h c)
    {q1 : DmaSem sig} (hq1 : q1 = dq 0 h k) {q2 : cond = 1#1 → DmaSem sig} (hq2 : ∀ hh, q2 hh = dq 1 h c)
    {hsc : ∀ hh : cond = 1#1, (dst hh : Memref sig (Dev.tc (d hh) : Thread nD τ).2.kind .vmem S64x512 .bf16).view.ref.isScScratch = false}
    {hsrc : (slot4 sbM h k).view.WordExact} {hdw : ∀ hh : cond = 1#1, (dst hh).view.WordExact}
    {hsem : ∀ hh : cond = 1#1, DmaTarget.Typed .vmem (.dma (q2 hh)) (.remote (Dev.tc (d hh) : Thread nD τ) (dst hh) (.dma q1) (hsc hh))}
    {kk : Prog (TpuEff nD τ sig (Elt F) Λ₀ .tc) α}
    (hk : St m K R c (n + 1) r b g cc o e 0 ⊢ WP c kk Qa) :
    St m K R c n r b g cc o e 0 ⊢ WP c (if hh : cond = 1#1 then
        (Prog.lift (.load sbM (r4 h k).toLoadRect hl) >>= fun _ => Prog.lift (.store sbM (r4 h k) w Finset.univ hx hm) >>= fun _ =>
          Prog.lift (.enqueueDma (slot4 sbM h k) (.remote (Dev.tc (d hh) : Thread nD τ) (dst hh) (.dma q1) (hsc hh)) (.dma (q2 hh)) hsrc (hdw hh) (hsem hh)) >>= fun _ => kk)
      else kk) Qa := by
  by_cases hkc : k = c
  · rw [dif_neg (fun h => hc.mp h hkc)]
    subst hkc
    rw [St_a_self m K R k h n r b g cc o e 0 hn]; exact hk
  · have hh := hc.mpr hkc
    rw [dif_pos hh]
    obtain ⟨d, rfl⟩ : ∃ d', d = fun _ => d' := ⟨d hh, rfl⟩
    obtain ⟨dst, rfl⟩ : ∃ d', dst = fun _ => d' := ⟨dst hh, rfl⟩
    obtain ⟨q2, rfl⟩ : ∃ d', q2 = fun _ => d' := ⟨q2 hh, rfl⟩
    obtain rfl : d = k := hd hh
    obtain rfl : dst = slot4 rsM h c := hdst hh
    obtain rfl : q2 = dq 1 h c := hq2 hh
    subst hq1
    simp only [Prog.lift, Prog.bind_op, Prog.bind_ret]
    obtain ⟨RA, e1, e2⟩ := peel (F := F) (h, d) (f := fA c n 0) (g := fA c (n + 1) 0) fun j hj => by
      unfold fA; simp only [pos_lt_succ (i := (h, d)) hn hj]
    have e3 : fA (F := F) c n 0 (h, d) = iprop(posAt c 0 h d 0 ∗ slotAny c sbM h d ∗ slotAny d rsM h c
        ∗ dutyTok ER (dCell c 0 h d) 0 0 ∗ dutyTok ER (dCell d 1 h c) 0 0) := by
      unfold fA; rw [if_neg hkc, if_neg (Nat.not_lt_zero _), if_neg (by rw [hn]; exact lt_irrefl _)]
    have e4 : fA (F := F) c (n + 1) 0 (h, d) = iprop(posAt c 0 h d 0 ∗ cred (tallyAt (dCell c 0 h d) () N)) := by
      unfold fA; rw [if_neg hkc, if_neg (Nat.not_lt_zero _), if_pos (by rw [hn]; exact Nat.lt_succ_self _)]
    refine keep hk ?_
    unfold St owesSt
    rw [e1, e2, e3, e4, OD_peel 1 c h d n hn, if_pos hkc, add_right_comm]
    iintro ⟨Hk, ⟨#Hrec, #Hlev⟩, Hxs, ⟨⟨Hat, Hsb, Hrs, Ht0, Ht1⟩, HRA⟩, H1, H2, H3, H4, H5, H6, ⟨%W, HO⟩, HR⟩
    unfold slotAny
    icases Hsb with ⟨%X0, Hsb⟩
    iapply (load_slot4 c sbM h d fullShare X0 _) $$ Hsb
    iintro %Y - Hsb
    iapply (store_slot4 c sbM h d (partB m c d h) w hw _) $$ [Hsb]
    · unfold slotAny; iexists X0; iexact Hsb
    iintro Hsb
    iapply (send_core m K c d (slot4 sbM h d) (slot4 rsM h c) fullShare (partB m c d h) 0 h d 1 h c hkc (Ne.symm hkc)
      (Entails.refl _) (Entails.refl _) (N_slot4 rsM h c) (OD 1 c (n + 1) + OD 3 c cc) W _) $$ [Hsb Hrs HO Ht0 Ht1]
    · isplitr; · iexact Hrec
      isplitl [Hsb]; · iexact Hsb
      isplitl [Hrs]; · iexact Hrs
      isplitl [HO]; · iexact HO
      isplitl [Ht0]; · iexact Ht0
      iexact Ht1
    iintro ⟨Hc, HO⟩
    iapply Hk
    isplitr; · isplitr; · iexact Hrec
               iexact Hlev
    isplitl [Hxs]; · iexact Hxs
    isplitl [Hat Hc HRA]
    · isplitl [Hat Hc]
      · isplitl [Hat]; · iexact Hat
        iexact Hc
      iexact HRA
    isplitl [H1]; · iexact H1
    isplitl [H2]; · iexact H2
    isplitl [H3]; · iexact H3
    isplitl [H4]; · iexact H4
    isplitl [H5]; · iexact H5
    isplitl [H6]; · iexact H6
    isplitl [HO]; · iexists W; iexact HO
    iexact HR

end Cert.MoeProof

end
-- ==== Proof.Steps2.lean ====
/-
# The later blocks of the body

The landings and their additions, the gather copies, the stores of the result and the closing waits, one rule each.
-/
module

public import proofs.«01_k».proof.Proof.Steps
public import Idealize.ShloMosaic.Lib.MemrefSat

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

theorem mayWait_none (c : Dev nD) (sm : SemLoc sig) : (levAts L lv : sProp 𝕄) ⊢ MayWait (c : Thread nD τ) sm () 0 := by
  rw [MayWait_zero]; iintro -; iempintro

/-! ## Landings, one device at a time -/

/-- The wait for another device's partial product, and its addition. -/
theorem step_B {α : Type} {Qa : α → sProp 𝕄} (R : sProp 𝕄) (c k h : Fin 4) (n : ℕ) (hn : n = 4 * h.val + k.val) {g cc : ℕ} {o : Prop} {e f : ℕ}
    {cond : BitVec 1} (hc : Iff (cond = 1#1) (k ≠ c)) {w : Vec F S64x512 .f32 → Vec F S1x1x64x512 .bf16 → Vec F S64x512 .f32}
    (hw : ∀ v Y, w v Y = addf v (extf .f32 (shapeCast (α := Elt F .bf16) S64x512 Y shapeCasts_S1x1x64x512_S64x512) bitsLt_bf16_f32))
    {q : DmaSem sig} (hq : q = dq 1 h k) {src : Memref sig .tc .vmem S64x512 .bf16}
    {h1 : src.view.WordExact} {h2 : (slot4 rsM h k).view.WordExact}
    {hl : redM.view.LoadsAt (rR h).toLoadRect} {hl' : rsM.view.LoadsAt (r4 h k).toLoadRect} {hl'' : redM.view.LoadsAt (rR h).toLoadRect}
    {hx : (redM.access (rR h)).Stores Finset.univ}
    {hm : (Finset.univ : Finset S64x512.Idx) = Finset.univ ∨ ∀ a, (rR h).stride a = 1} {kk : Prog (TpuEff nD τ sig (Elt F) Λ₀ .tc) α}
    (hk : St m K R c 16 16 (n + 1) g cc o e f ⊢ WP c kk Qa) :
    St m K R c 16 16 n g cc o e f ⊢ WP c (if _h : cond = 1#1 then
        (Prog.lift (.waitDma2 q src (slot4 rsM h k) h1 h2) >>= fun _ => Prog.lift (.load redM (rR h).toLoadRect hl) >>= fun v =>
          Prog.lift (.load rsM (r4 h k).toLoadRect hl') >>= fun Y => Prog.lift (.load redM (rR h).toLoadRect hl'') >>= fun _ =>
          Prog.lift (.store redM (rR h) (w v Y) Finset.univ hx hm) >>= fun _ => kk)
      else kk) Qa := by
  by_cases hkc : k = c
  · rw [dif_neg (fun h => hc.mp h hkc)]
    subst hkc
    rw [St_b_self m K R k h n 16 16 g cc o e f hn]; exact hk
  · rw [dif_pos (hc.mpr hkc)]
    subst hq
    simp only [Prog.lift, Prog.bind_op, Prog.bind_ret, hw]
    obtain ⟨RB, e1, e2⟩ := peel (F := F) (h, k) (f := fB c n) (g := fB c (n + 1)) fun j hj => by
      unfold fB; simp only [pos_lt_succ (i := (h, k)) hn hj]
    have e3 : fB (F := F) c n (h, k) = iprop(posAt c 1 h k 0 ∗ cred (tallyAt (dCell c 1 h k) () N)) := by
      unfold fB; rw [if_neg hkc, if_neg (by rw [hn]; exact lt_irrefl _)]
    have e4 : fB (F := F) c (n + 1) (h, k) = iprop(posAt c 1 h k 1 ∗ slotAny c rsM h k) := by
      unfold fB; rw [if_neg hkc, if_pos (by rw [hn]; exact Nat.lt_succ_self _)]
    refine keep hk ?_
    unfold St owesSt redSt
    rw [e1, e2, e3, e4, OD_end, zero_add]
    iintro ⟨Hk, ⟨#Hrec, #Hlev⟩, H1, H2, ⟨%f0, %hf0, Hred⟩, ⟨⟨Hat, Hc⟩, HRB⟩, H3, H4, H5, H6, ⟨%W, HO⟩, HR⟩
    iapply (wait_core m K c src (slot4 rsM h k) 1 h k hkc (N_slot4 rsM h k) (OD 3 c cc) W (mayWait_rs c h k cc) _) $$ [Hat Hc HO]
    · isplitr; · iexact Hrec
      isplitr; · iexact Hlev
      isplitl [Hat]; · iexact Hat
      isplitl [Hc]; · iexact Hc
      iexact HO
    iintro ⟨HO, Hat, Hp⟩
    ihave Hp := (show dPay m c 1 h k ⊢ owns (c : Thread nD τ) (slot4 rsM h k) fullShare (partB m k c h) from BI.Entails.refl _) $$ Hp
    iapply (load_red c h f0 _) $$ Hred; iintro Hred
    iapply (load_slot4 c rsM h k fullShare (partB m k c h) _) $$ Hp
    iintro %Y %hY Hp
    iapply (load_red c h f0 _) $$ Hred; iintro Hred
    iapply (store_red c h f0 _ _) $$ Hred; iintro Hred
    iapply Hk
    isplitr; · isplitr; · iexact Hrec
               iexact Hlev
    isplitl [H1]; · iexact H1
    isplitl [H2]; · iexact H2
    isplitl [Hred]
    · iexists _; isplitr [Hred]; swap; · iexact Hred
      ipureintro
      intro h' hh'
      have b1 := k.isLt; have b2 := c.isLt; have b3 := h'.isLt; have b4 := h.isLt
      rw [red_write, hY]
      split
      · next e =>
        subst e
        rw [hf0 h' (by omega), show min 4 (n - 4 * h'.val) = k.val by omega, show min 4 (n + 1 - 4 * h'.val) = k.val + 1 by omega, acc_other m c h' k hkc]
      · next e =>
        have : h'.val ≠ h.val := fun e' => e (Fin.ext e')
        rw [hf0 h' hh', show min 4 (n - 4 * h'.val) = min 4 (n + 1 - 4 * h'.val) by omega]
    isplitl [Hat Hp HRB]
    · isplitl [Hat Hp]
      · isplitl [Hat]; · iexact Hat
        unfold slotAny; iexists _; iexact Hp
      iexact HRB
    isplitl [H3]; · iexact H3
    isplitl [H4]; · iexact H4
    isplitl [H5]; · iexact H5
    isplitl [H6]; · iexact H6
    isplitl [HO]; · iexact HO
    iexact HR

theorem shares4_eq (c : Dev nD) (h : Fin 4) (X : Vec F S64x512 .bf16) :
    (bigSep Finset.univ fun k : Fin 4 => owns (c : Thread nD τ) (slot3 h) (qsh k) X : sProp 𝕄)
      = iprop(owns (c : Thread nD τ) (slot3 h) fullShare.left.left X ∗ owns (c : Thread nD τ) (slot3 h) fullShare.left.right X
        ∗ owns (c : Thread nD τ) (slot3 h) fullShare.right.left X ∗ owns (c : Thread nD τ) (slot3 h) fullShare.right.right X) := by
  rw [bigSep_eq_bigSepL_of_eq [(0 : Fin 4), 1, 2, 3] (by decide) (by decide)]; rfl

/-- A slot held whole is a slot held in four shares. -/
theorem shares4 (c : Dev nD) (h : Fin 4) (X : Vec F S64x512 .bf16) :
    (owns (c : Thread nD τ) (slot3 h) fullShare X : sProp 𝕄) ⊢ bigSep Finset.univ fun k : Fin 4 => owns (c : Thread nD τ) (slot3 h) (qsh k) X := by
  rw [shares4_eq]
  iintro H
  icases (owns_halves (c : Thread nD τ) (slot3 h) fullShare X).1 $$ H with ⟨Hl, Hr⟩
  icases (owns_halves (c : Thread nD τ) (slot3 h) fullShare.left X).1 $$ Hl with ⟨Ha, Hb⟩
  icases (owns_halves (c : Thread nD τ) (slot3 h) fullShare.right X).1 $$ Hr with ⟨Hc, Hd⟩
  isplitl [Ha]; · iexact Ha
  isplitl [Hb]; · iexact Hb
  isplitl [Hc]; · iexact Hc
  iexact Hd

/-- And back. -/
theorem shares4_back (c : Dev nD) (h : Fin 4) (X : Vec F S64x512 .bf16) :
    (bigSep Finset.univ fun k : Fin 4 => owns (c : Thread nD τ) (slot3 h) (qsh k) X : sProp 𝕄) ⊢ owns (c : Thread nD τ) (slot3 h) fullShare X := by
  rw [shares4_eq]
  iintro ⟨Ha, Hb, Hc, Hd⟩
  iapply (owns_halves (c : Thread nD τ) (slot3 h) fullShare X).2
  isplitl [Ha Hb]
  · iapply (owns_halves (c : Thread nD τ) (slot3 h) fullShare.left X).2
    isplitl [Ha]; · iexact Ha
    iexact Hb
  iapply (owns_halves (c : Thread nD τ) (slot3 h) fullShare.right X).2
  isplitl [Hc]; · iexact Hc
  iexact Hd

/-- A quarter complete: its sum, rounded, into the gather staging slot. -/
theorem step_G {α : Type} {Qa : α → sProp 𝕄} (R : sProp 𝕄) (c h : Fin 4) (b cc : ℕ) (hb : 4 * h.val + 4 ≤ b) (hcc : cc ≤ 4 * h.val)
    {a : ℕ} {o : Prop} {e : ℕ}
    {w : Vec F S64x512 .f32 → Vec F S1x64x512 .bf16}
    (hw : ∀ v, w v = shapeCast (α := Elt F .bf16) S1x64x512 (truncf .bf16 v bitsLt_bf16_f32) shapeCasts_S64x512_S1x64x512)
    {hl : redM.view.LoadsAt (rR h).toLoadRect} {hl' : agM.view.LoadsAt (r3 h).toLoadRect} {hx : (agM.access (r3 h)).Stores Finset.univ}
    {hm : (Finset.univ : Finset S1x64x512.Idx) = Finset.univ ∨ ∀ a, (r3 h).stride a = 1} {kk : Prog (TpuEff nD τ sig (Elt F) Λ₀ .tc) α}
    (hk : St m K R c a 16 b (h.val + 1) cc o e 0 ⊢ WP c kk Qa) :
    St m K R c a 16 b h.val cc o e 0 ⊢ WP c (Prog.lift (.load redM (rR h).toLoadRect hl) >>= fun v =>
        Prog.lift (.load agM (r3 h).toLoadRect hl') >>= fun _ => Prog.lift (.store agM (r3 h) (w v) Finset.univ hx hm) >>= fun _ => kk) Qa := by
  simp only [Prog.lift, Prog.bind_op, Prog.bind_ret, hw]
  obtain ⟨RS, e1, e2⟩ := peel (F := F) h (f := fS m c h.val cc 0) (g := fS m c (h.val + 1) cc 0) fun j hj => by
    unfold fS
    have : j.val ≠ h.val := fun e => hj (Fin.ext e)
    simp only [show (j.val < h.val + 1) = (j.val < h.val) from propext ⟨fun _ => by omega, fun _ => by omega⟩]
  have e3 : fS m c h.val cc 0 h = iprop(∃ X, owns (c : Thread nD τ) (slot3 h) fullShare X) := by
    unfold fS; rw [if_neg (lt_irrefl _)]
  have e4 : fS m c (h.val + 1) cc 0 h = bigSep Finset.univ fun k : Fin 4 => owns (c : Thread nD τ) (slot3 h) (qsh k) (redB m c h) := by
    unfold fS; rw [if_pos (Nat.lt_succ_self _)]
    refine bigSep_congr fun k _ => ?_
    unfold fS1; rw [if_neg]
    rintro ⟨-, hlt, -⟩
    have : 4 * h.val + k.val < cc := hlt
    omega
  refine keep hk ?_
  unfold St redSt
  rw [e1, e2, e3, e4]
  iintro ⟨Hk, H1, H2, H3, ⟨%f0, %hf0, Hred⟩, H4, H5, ⟨⟨%X0, Hag⟩, HRS⟩, H6⟩
  have hr : (redM.access (rR h)).read (Elt F) f0 = red m c h := by
    have b2 := c.isLt; have b4 := h.isLt
    rw [hf0 h (by omega), show min 4 (b - 4 * h.val) = 4 by omega]; rfl
  iapply (load_red c h f0 _) $$ Hred; iintro Hred
  rw [hr]
  iapply (load_slot3 c h fullShare X0 _) $$ Hag; iintro %Y Hag
  iapply (store_slot3 c h (redB m c h) _ rfl _ X0) $$ Hag; iintro Hag
  iapply Hk
  isplitl [H1]; · iexact H1
  isplitl [H2]; · iexact H2
  isplitl [H3]; · iexact H3
  isplitl [Hred]
  · iexists f0; isplitr [Hred]; swap; · iexact Hred
    ipureintro; exact hf0
  isplitl [H4]; · iexact H4
  isplitl [H5]; · iexact H5
  isplitl [Hag HRS]
  · isplitl [Hag]; · iapply (shares4 c h (redB m c h)); iexact Hag
    iexact HRS
  iexact H6

/-- The families of shares at one step: a share of slot `h` for device `k` is taken out or put back. -/
theorem fS_step (c h k : Fin 4) (n : ℕ) (hn : n = 4 * h.val + k.val) (g : ℕ) (hg : h.val < g) (cc cc' f f' : ℕ)
    (hcc : ∀ j : Fin 4 × Fin 4, j ≠ (h, k) → (pos j < cc) = (pos j < cc')) (hf : ∀ j : Fin 4 × Fin 4, j ≠ (h, k) → (pos j < f) = (pos j < f')) :
    ∃ R : sProp 𝕄, bigSep Finset.univ (fS m c g cc f) = iprop(fS1 m c cc f (h, k) ∗ R)
      ∧ bigSep Finset.univ (fS m c g cc' f') = iprop(fS1 m c cc' f' (h, k) ∗ R) := by
  obtain ⟨R1, e1, e2⟩ := peel (F := F) h (f := fS m c g cc f) (g := fS m c g cc' f') fun j hj => by
    unfold fS
    rw [bigSep_congr (s := Finset.univ) (Φ := fun k' => fS1 m c cc f (j, k')) (Ψ := fun k' => fS1 m c cc' f' (j, k')) fun k' _ => by
      unfold fS1
      simp only [hcc (j, k') fun e => hj (congrArg Prod.fst e), hf (j, k') fun e => hj (congrArg Prod.fst e)]]
  obtain ⟨R2, e3, e4⟩ := peel (F := F) k (f := fun k' => fS1 m c cc f (h, k')) (g := fun k' => fS1 m c cc' f' (h, k')) fun j hj => by
    unfold fS1
    simp only [hcc (h, j) fun e => hj (congrArg Prod.snd e), hf (h, j) fun e => hj (congrArg Prod.snd e)]
  refine ⟨iprop(R2 ∗ R1), ?_, ?_⟩
  · rw [e1]; unfold fS; rw [if_pos hg, e3]
    exact Idealize.SL.BI.Entails.antisymm Idealize.SL.BI.sep_assoc Idealize.SL.BI.sep_assoc'
  · rw [e2]; unfold fS; rw [if_pos hg, e4]
    exact Idealize.SL.BI.Entails.antisymm Idealize.SL.BI.sep_assoc Idealize.SL.BI.sep_assoc'

/-- To every other device the sum goes. -/
theorem step_C {α : Type} {Qa : α → sProp 𝕄} (R : sProp 𝕄) (c k h : Fin 4) (n : ℕ) (hn : n = 4 * h.val + k.val) {a r b g : ℕ} (hg : h.val < g) {o : Prop} {e : ℕ}
    {cond : BitVec 1} (hc : Iff (cond = 1#1) (k ≠ c))
    {d : cond = 1#1 → Dev nD} (hd : ∀ hh, d hh = k)
    {dst : cond = 1#1 → Memref sig .tc .vmem S64x512 .bf16} (hdst : ∀ hh, dst hh = slot4 abM h c)
    {q1 : DmaSem sig} (hq1 : q1 = dq 2 h k) {q2 : cond = 1#1 → DmaSem sig} (hq2 : ∀ hh, q2 hh = dq 3 h c)
    {hsc : ∀ hh : cond = 1#1, (dst hh : Memref sig (Dev.tc (d hh) : Thread nD τ).2.kind .vmem S64x512 .bf16).view.ref.isScScratch = false}
    {hsrc : (slot3 h).view.WordExact} {hdw : ∀ hh : cond = 1#1, (dst hh).view.WordExact}
    {hsem : ∀ hh : cond = 1#1, DmaTarget.Typed .vmem (.dma (q2 hh)) (.remote (Dev.tc (d hh) : Thread nD τ) (dst hh) (.dma q1) (hsc hh))}
    {kk : Prog (TpuEff nD τ sig (Elt F) Λ₀ .tc) α}
    (hk : St m K R c a r b g (n + 1) o e 0 ⊢ WP c kk Qa) :
    St m K R c a r b g n o e 0 ⊢ WP c (if hh : cond = 1#1 then
        (Prog.lift (.enqueueDma (slot3 h) (.remote (Dev.tc (d hh) : Thread nD τ) (dst hh) (.dma q1) (hsc hh)) (.dma (q2 hh)) hsrc (hdw hh) (hsem hh)) >>= fun _ => kk)
      else kk) Qa := by
  by_cases hkc : k = c
  · rw [dif_neg (fun h => hc.mp h hkc)]
    subst hkc
    rw [St_cc_self m K R k h n a r b g o e 0 hn]; exact hk
  · have hh := hc.mpr hkc
    rw [dif_pos hh]
    obtain ⟨d, rfl⟩ : ∃ d', d = fun _ => d' := ⟨d hh, rfl⟩
    obtain ⟨dst, rfl⟩ : ∃ d', dst = fun _ => d' := ⟨dst hh, rfl⟩
    obtain ⟨q2, rfl⟩ : ∃ d', q2 = fun _ => d' := ⟨q2 hh, rfl⟩
    obtain rfl : d = k := hd hh
    obtain rfl : dst = slot4 abM h c := hdst hh
    obtain rfl : q2 = dq 3 h c := hq2 hh
    subst hq1
    simp only [Prog.lift, Prog.bind_op, Prog.bind_ret]
    obtain ⟨RC, e1, e2⟩ := peel (F := F) (h, d) (f := fC c n 0) (g := fC c (n + 1) 0) fun j hj => by
      unfold fC; simp only [pos_lt_succ (i := (h, d)) hn hj]
    have e3 : fC (F := F) c n 0 (h, d) = iprop(posAt c 2 h d 0 ∗ slotAny d abM h c
        ∗ dutyTok ER (dCell c 2 h d) 0 0 ∗ dutyTok ER (dCell d 3 h c) 0 0) := by
      unfold fC; rw [if_neg hkc, if_neg (Nat.not_lt_zero _), if_neg (by rw [hn]; exact lt_irrefl _)]
    have e4 : fC (F := F) c (n + 1) 0 (h, d) = iprop(posAt c 2 h d 0 ∗ cred (tallyAt (dCell c 2 h d) () N)) := by
      unfold fC; rw [if_neg hkc, if_neg (Nat.not_lt_zero _), if_pos (by rw [hn]; exact Nat.lt_succ_self _)]
    obtain ⟨RS, s1, s2⟩ := fS_step m c h d n hn g hg n (n + 1) 0 0 (fun j hj => (pos_lt_succ (i := (h, d)) hn hj).symm) (fun _ _ => rfl)
    have s3 : fS1 m c n 0 (h, d) = owns (c : Thread nD τ) (slot3 h) (qsh d) (redB m c h) := by
      unfold fS1; rw [if_neg]
      rintro ⟨-, hlt, -⟩
      exact absurd hlt (by rw [hn]; exact lt_irrefl _)
    have s4 : fS1 m c (n + 1) 0 (h, d) = iprop(emp) := by
      unfold fS1; rw [if_pos ⟨hkc, by rw [hn]; exact Nat.lt_succ_self _, Nat.not_lt_zero _⟩]
    refine keep hk ?_
    unfold St owesSt
    rw [e1, e2, e3, e4, s1, s2, s3, s4, OD_peel 3 c h d n hn, if_pos hkc, ← add_assoc]
    iintro ⟨Hk, ⟨#Hrec, #Hlev⟩, H1, H2, H3, H4, ⟨⟨Hat, Hab, Ht0, Ht1⟩, HRC⟩, ⟨Hag, HRS⟩, H5, H6, ⟨%W, HO⟩, HR⟩
    unfold slotAny
    iapply (send_core m K c d (slot3 h) (slot4 abM h c) (qsh d) (redB m c h) 2 h d 3 h c hkc (Ne.symm hkc)
      (BI.Entails.refl _) (BI.Entails.refl _) (N_slot4 abM h c) (OD 1 c a + OD 3 c (n + 1)) W _) $$ [Hag Hab HO Ht0 Ht1]
    · isplitr; · iexact Hrec
      isplitl [Hag]; · iexact Hag
      isplitl [Hab]; · iexact Hab
      isplitl [HO]; · iexact HO
      isplitl [Ht0]; · iexact Ht0
      iexact Ht1
    iintro ⟨Hc, HO⟩
    iapply Hk
    isplitr; · isplitr; · iexact Hrec
               iexact Hlev
    isplitl [H1]; · iexact H1
    isplitl [H2]; · iexact H2
    isplitl [H3]; · iexact H3
    isplitl [H4]; · iexact H4
    isplitl [Hat Hc HRC]
    · isplitl [Hat Hc]
      · isplitl [Hat]; · iexact Hat
        iexact Hc
      iexact HRC
    isplitl [HRS]
    · isplitr; · iempintro
      iexact HRS
    isplitl [H5]; · iexact H5
    isplitl [H6]; · iexact H6
    isplitl [HO]; · iexists W; iexact HO
    iexact HR

/-- The device's own rows of the result. -/
theorem step_own {α : Type} {Qa : α → sProp 𝕄} (R : sProp 𝕄) (c : Dev nD) {a g cc f : ℕ}
    {hl : redM.view.LoadsAt rRw.toLoadRect} {hl' : outM.view.LoadsAt (rOw c).toLoadRect} {hx : (outM.access (rOw c)).Stores Finset.univ}
    {hm : (Finset.univ : Finset S256x512.Idx) = Finset.univ ∨ ∀ a, (rOw c).stride a = 1} {kk : Prog (TpuEff nD τ sig (Elt F) Λ₀ .tc) α}
    (hk : St m K R c a 16 16 g cc True 0 f ⊢ WP c kk Qa) :
    St m K R c a 16 16 g cc False 0 f ⊢ WP c (Prog.lift (.load redM rRw.toLoadRect hl) >>= fun v =>
        Prog.lift (.load outM (rOw c).toLoadRect hl') >>= fun _ => Prog.lift (.store outM (rOw c) v Finset.univ hx hm) >>= fun _ => kk) Qa := by
  simp only [Prog.lift, Prog.bind_op, Prog.bind_ret]
  refine keep hk ?_
  unfold St redSt outSt
  iintro ⟨Hk, H1, H2, H3, ⟨%f0, %hf0, Hred⟩, H4, H5, H6, ⟨%fo, -, Hout⟩, H7⟩
  iapply (wp_load_rect 𝒱₀ (c : Thread nD τ) none Set.univ (m := redM) (r := rRw) (Finset.subset_univ _)) $$ Hred; iintro Hred
  iapply (wp_load_rect 𝒱₀ (c : Thread nD τ) none Set.univ (m := outM) (r := rOw c) (Finset.subset_univ _)) $$ Hout; iintro Hout
  iapply (wp_store 𝒱₀ (c : Thread nD τ) none Set.univ (m := outM) (r := rOw c) (Mk := Finset.univ) (Finset.subset_univ _)) $$ Hout; iintro Hout
  iapply Hk
  isplitl [H1]; · iexact H1
  isplitl [H2]; · iexact H2
  isplitl [H3]; · iexact H3
  isplitl [Hred]
  · iexists f0; isplitr [Hred]; swap; · iexact Hred
    ipureintro; exact hf0
  isplitl [H4]; · iexact H4
  isplitl [H5]; · iexact H5
  isplitl [H6]; · iexact H6
  isplitl [Hout]
  · iexists _; isplitr [Hout]; swap; · iexact Hout
    ipureintro
    intro k h hh
    rw [out_own]
    by_cases hkc : k = c
    · subst hkc
      have b2 := k.isLt; have b4 := h.isLt
      rw [if_pos rfl, hf0 h (by omega), show min 4 (16 - 4 * h.val) = 4 by omega]
      unfold outQ; rw [if_pos rfl]; rfl
    · rw [if_neg hkc] at hh; exact absurd hh (Nat.not_lt_zero _)
  iexact H7

/-- The wait for another device's sum, and its rows of the result. -/
theorem step_E {α : Type} {Qa : α → sProp 𝕄} (R : sProp 𝕄) (c k h : Fin 4) (n : ℕ) (hn : n = 4 * h.val + k.val) {r b g : ℕ} {f : ℕ}
    {cond : BitVec 1} (hc : Iff (cond = 1#1) (k ≠ c)) {w : Vec F S1x1x64x512 .bf16 → Vec F S64x512 .f32}
    (hw : ∀ Y, w Y = extf .f32 (shapeCast (α := Elt F .bf16) S64x512 Y shapeCasts_S1x1x64x512_S64x512) bitsLt_bf16_f32)
    {q : DmaSem sig} (hq : q = dq 3 h k) {src : Memref sig .tc .vmem S64x512 .bf16}
    {h1 : src.view.WordExact} {h2 : (slot4 abM h k).view.WordExact}
    {hl : abM.view.LoadsAt (r4 h k).toLoadRect} {hl' : outM.view.LoadsAt (rO k h).toLoadRect}
    {hx : (outM.access (rO k h)).Stores Finset.univ}
    {hm : (Finset.univ : Finset S64x512.Idx) = Finset.univ ∨ ∀ a, (rO k h).stride a = 1} {kk : Prog (TpuEff nD τ sig (Elt F) Λ₀ .tc) α}
    (hk : St m K R c 16 r b g 16 True (n + 1) f ⊢ WP c kk Qa) :
    St m K R c 16 r b g 16 True n f ⊢ WP c (if _h : cond = 1#1 then
        (Prog.lift (.waitDma2 q src (slot4 abM h k) h1 h2) >>= fun _ => Prog.lift (.load abM (r4 h k).toLoadRect hl) >>= fun Y =>
          Prog.lift (.load outM (rO k h).toLoadRect hl') >>= fun _ =>
          Prog.lift (.store outM (rO k h) (w Y) Finset.univ hx hm) >>= fun _ => kk)
      else kk) Qa := by
  by_cases hkc : k = c
  · rw [dif_neg (fun h => hc.mp h hkc)]
    subst hkc
    rw [St_e_self m K R k h n 16 r b g 16 True f hn]; exact hk
  · rw [dif_pos (hc.mpr hkc)]
    subst hq
    simp only [Prog.lift, Prog.bind_op, Prog.bind_ret, hw]
    obtain ⟨RE, e1, e2⟩ := peel (F := F) (h, k) (f := fE c n) (g := fE c (n + 1)) fun j hj => by
      unfold fE; simp only [pos_lt_succ (i := (h, k)) hn hj]
    have e3 : fE (F := F) c n (h, k) = iprop(posAt c 3 h k 0 ∗ cred (tallyAt (dCell c 3 h k) () N)) := by
      unfold fE; rw [if_neg hkc, if_neg (by rw [hn]; exact lt_irrefl _)]
    have e4 : fE (F := F) c (n + 1) (h, k) = iprop(posAt c 3 h k 1 ∗ slotAny c abM h k) := by
      unfold fE; rw [if_neg hkc, if_pos (by rw [hn]; exact Nat.lt_succ_self _)]
    refine keep hk ?_
    unfold St owesSt outSt
    rw [e1, e2, e3, e4, OD_end, OD_end, zero_add]
    iintro ⟨Hk, ⟨#Hrec, #Hlev⟩, H1, H2, H3, H4, H5, H6, ⟨%f0, %hf0, Hout⟩, ⟨⟨Hat, Hc⟩, HRE⟩, ⟨%W, HO⟩, HR⟩
    iapply (wait_core m K c src (slot4 abM h k) 3 h k hkc (N_slot4 abM h k) 0 W (mayWait_none c _) _) $$ [Hat Hc HO]
    · isplitr; · iexact Hrec
      isplitr; · iexact Hlev
      isplitl [Hat]; · iexact Hat
      isplitl [Hc]; · iexact Hc
      iexact HO
    iintro ⟨HO, Hat, Hp⟩
    ihave Hp := (show dPay m c 3 h k ⊢ owns (c : Thread nD τ) (slot4 abM h k) fullShare (redB m k h) from BI.Entails.refl _) $$ Hp
    iapply (load_slot4 c abM h k fullShare (redB m k h) _) $$ Hp
    iintro %Y %hY Hp
    iapply (wp_load_rect 𝒱₀ (c : Thread nD τ) none Set.univ (m := outM) (r := rO k h) (Finset.subset_univ _)) $$ Hout; iintro Hout
    iapply (wp_store 𝒱₀ (c : Thread nD τ) none Set.univ (m := outM) (r := rO k h) (Mk := Finset.univ) (Finset.subset_univ _)) $$ Hout; iintro Hout
    iapply Hk
    isplitr; · isplitr; · iexact Hrec
               iexact Hlev
    isplitl [H1]; · iexact H1
    isplitl [H2]; · iexact H2
    isplitl [H3]; · iexact H3
    isplitl [H4]; · iexact H4
    isplitl [H5]; · iexact H5
    isplitl [H6]; · iexact H6
    isplitl [Hout]
    · iexists _; isplitr [Hout]; swap; · iexact Hout
      ipureintro
      intro k' h' hh'
      rw [out_write, hY]
      split
      · next e =>
        obtain ⟨rfl, rfl⟩ := e
        unfold outQ; rw [if_neg hkc]
      · next e =>
        refine hf0 k' h' ?_
        by_cases hk' : k' = c
        · rw [if_pos hk']; trivial
        · rw [if_neg hk'] at hh' ⊢
          rwa [pos_lt_succ (i := (h, k)) hn fun e' => e ⟨congrArg Prod.snd e', congrArg Prod.fst e'⟩] at hh'
    isplitl [Hat Hp HRE]
    · isplitl [Hat Hp]
      · isplitl [Hat]; · iexact Hat
        unfold slotAny; iexists _; iexact Hp
      iexact HRE
    isplitl [HO]; · iexact HO
    iexact HR

/-- The two waits that end the copies to one other device. -/
theorem step_F {α : Type} {Qa : α → sProp 𝕄} (R : sProp 𝕄) (c k h : Fin 4) (n : ℕ) (hn : n = 4 * h.val + k.val) {r b : ℕ} {o : Prop} {e : ℕ}
    {cond : BitVec 1} (hc : Iff (cond = 1#1) (k ≠ c))
    {q : DmaSem sig} (hq : q = dq 0 h k) {q' : DmaSem sig} (hq' : q' = dq 2 h k)
    {src src' : cond = 1#1 → Memref sig .tc .vmem S64x512 .bf16}
    {h1 : ∀ hh, (src hh).view.WordExact} {h2 : (slot4 sbM h k).view.WordExact}
    {h1' : ∀ hh, (src' hh).view.WordExact} {h2' : (slot3 h).view.WordExact} {kk : Prog (TpuEff nD τ sig (Elt F) Λ₀ .tc) α}
    (hk : St m K R c 16 r b 4 16 o e (n + 1) ⊢ WP c kk Qa) :
    St m K R c 16 r b 4 16 o e n ⊢ WP c (if hh : cond = 1#1 then
        (Prog.lift (.waitDma2 q (src hh) (slot4 sbM h k) (h1 hh) h2) >>= fun _ =>
          Prog.lift (.waitDma2 q' (src' hh) (slot3 h) (h1' hh) h2') >>= fun _ => kk)
      else kk) Qa := by
  by_cases hkc : k = c
  · rw [dif_neg (fun h => hc.mp h hkc)]
    subst hkc
    rw [St_f_self m K R k h n 16 r b 4 16 o e hn]; exact hk
  · have hh := hc.mpr hkc
    rw [dif_pos hh]
    subst hq hq'
    simp only [Prog.lift, Prog.bind_op, Prog.bind_ret]
    have hp : pos (h, k) < 16 := by
      have b1 := h.isLt; have b2 := k.isLt
      show 4 * h.val + k.val < 16
      omega
    obtain ⟨RA, e1, e2⟩ := peel (F := F) (h, k) (f := fA c 16 n) (g := fA c 16 (n + 1)) fun j hj => by
      unfold fA; simp only [pos_lt_succ (i := (h, k)) hn hj]
    have e3 : fA (F := F) c 16 n (h, k) = iprop(posAt c 0 h k 0 ∗ cred (tallyAt (dCell c 0 h k) () N)) := by
      unfold fA; rw [if_neg hkc, if_neg (by rw [hn]; exact lt_irrefl _), if_pos hp]
    have e4 : fA (F := F) c 16 (n + 1) (h, k) = iprop(posAt c 0 h k 1 ∗ slotAny c sbM h k) := by
      unfold fA; rw [if_neg hkc, if_pos (by rw [hn]; exact Nat.lt_succ_self _)]
    obtain ⟨RC, c1, c2⟩ := peel (F := F) (h, k) (f := fC c 16 n) (g := fC c 16 (n + 1)) fun j hj => by
      unfold fC; simp only [pos_lt_succ (i := (h, k)) hn hj]
    have c3 : fC (F := F) c 16 n (h, k) = iprop(posAt c 2 h k 0 ∗ cred (tallyAt (dCell c 2 h k) () N)) := by
      unfold fC; rw [if_neg hkc, if_neg (by rw [hn]; exact lt_irrefl _), if_pos hp]
    have c4 : fC (F := F) c 16 (n + 1) (h, k) = posAt c 2 h k 1 := by
      unfold fC; rw [if_neg hkc, if_pos (by rw [hn]; exact Nat.lt_succ_self _)]
    obtain ⟨RS, s1, s2⟩ := fS_step m c h k n hn 4 h.isLt 16 16 n (n + 1) (fun _ _ => rfl) (fun j hj => (pos_lt_succ (i := (h, k)) hn hj).symm)
    have s3 : fS1 m c 16 n (h, k) = iprop(emp) := by
      unfold fS1; rw [if_pos ⟨hkc, hp, by rw [hn]; exact lt_irrefl _⟩]
    have s4 : fS1 m c 16 (n + 1) (h, k) = owns (c : Thread nD τ) (slot3 h) (qsh k) (redB m c h) := by
      unfold fS1; rw [if_neg]
      rintro ⟨-, -, hlt⟩
      exact hlt (by rw [hn]; exact Nat.lt_succ_self _)
    refine keep hk ?_
    unfold St owesSt
    rw [e1, e2, e3, e4, c1, c2, c3, c4, s1, s2, s3, s4, OD_end, OD_end, zero_add]
    iintro ⟨Hk, ⟨#Hrec, #Hlev⟩, H1, ⟨⟨HatA, HcA⟩, HRA⟩, H2, H3, ⟨⟨HatC, HcC⟩, HRC⟩, ⟨-, HRS⟩, H4, H5, ⟨%W, HO⟩, HR⟩
    iapply (wait_core m K c (src hh) (slot4 sbM h k) 0 h k hkc (N_slot4 sbM h k) 0 W (mayWait_none c _) _) $$ [HatA HcA HO]
    · isplitr; · iexact Hrec
      isplitr; · iexact Hlev
      isplitl [HatA]; · iexact HatA
      isplitl [HcA]; · iexact HcA
      iexact HO
    iintro ⟨⟨%W', HO⟩, HatA, Hp⟩
    ihave Hp := (show dPay m c 0 h k ⊢ owns (c : Thread nD τ) (slot4 sbM h k) fullShare (partB m c k h) from BI.Entails.refl _) $$ Hp
    iapply (wait_core m K c (src' hh) (slot3 h) 2 h k hkc (N_slot3 h) 0 W' (mayWait_none c _) _) $$ [HatC HcC HO]
    · isplitr; · iexact Hrec
      isplitr; · iexact Hlev
      isplitl [HatC]; · iexact HatC
      isplitl [HcC]; · iexact HcC
      iexact HO
    iintro ⟨HO, HatC, Hq⟩
    ihave Hq := (show dPay m c 2 h k ⊢ owns (c : Thread nD τ) (slot3 h) (qsh k) (redB m c h) from BI.Entails.refl _) $$ Hq
    iapply Hk
    isplitr; · isplitr; · iexact Hrec
               iexact Hlev
    isplitl [H1]; · iexact H1
    isplitl [HatA Hp HRA]
    · isplitl [HatA Hp]
      · isplitl [HatA]; · iexact HatA
        unfold slotAny; iexists _; iexact Hp
      iexact HRA
    isplitl [H2]; · iexact H2
    isplitl [H3]; · iexact H3
    isplitl [HatC HRC]
    · isplitl [HatC]; · iexact HatC
      iexact HRC
    isplitl [Hq HRS]
    · isplitl [Hq]; · iexact Hq
      iexact HRS
    isplitl [H4]; · iexact H4
    isplitl [H5]; · iexact H5
    isplitl [HO]; · iexact HO
    iexact HR

end Cert.MoeProof

end
-- ==== Proof.PartBase.lean ====
/-
# Names the body computes

The slots and semaphores the body reaches through the device's own number are the schedule's.
-/
module

public import proofs.«01_k».proof.Proof.Steps2

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

theorem vdev_toNat (c : Fin 4) : (vdev c).toNat = c.val := by revert c; decide

/-- A slot the body names through the device's own number. -/
theorem slot_dyn (M : Memref sig .tc .vmem S4x4x64x512 .bf16) (h : Fin 4) (c : Dev nD) (off : Fin 4 → ℕ) (ho : off = ![h.val, (vdev c).toNat, 0, 0])
    (inb : ∀ a, off a + S1x1x64x512.size a ≤ S4x4x64x512.size a) (hq : S1x1x64x512.Squeezes S64x512)
    (hs : ∀ a, (Rect.unit (s := S4x4x64x512) off S1x1x64x512.size inb).stride a = 1) :
    (M.slice (Rect.unit (s := S4x4x64x512) off S1x1x64x512.size inb) hs).squeeze S64x512 hq = slot4 M h c := by
  rw [vdev_toNat] at ho; subst ho; rfl
/-- The same for a semaphore's offsets. -/
theorem sem_off (h : Fin 4) (c : Dev nD) (off : Fin 2 → ℕ) (ho : off = ![h.val, (vdev c).toNat]) : off = ![h.val, c.val] := by
  rw [ho, vdev_toNat]

/-- A run that returns. -/
theorem ret {α : Type} {Qa : α → sProp 𝕄} (c : Dev nD) {P : sProp 𝕄} {v : α} (hk : P ⊢ Qa v) :
    P ⊢ WP c (pure v : Prog (TpuEff nD τ sig (Elt F) Λ₀ .tc) α) Qa := by
  show P ⊢ wp _ _ _ (Prog.ret v) Qa
  rw [wp_ret]
  iintro H; imodintro; iapply hk; iexact H

end Cert.MoeProof

end
-- ==== Proof.Start.lean ====
/-
# The start of the body

A buffer and its slots, the barrier's signals and its wait.
-/
module

public import proofs.«01_k».proof.Proof.PartBase

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

/-! ## A buffer and its slots -/

/-- The elements of slot `(h, k)` of a 4 × 4 buffer. -/
abbrev set4 (M : Memref sig .tc .vmem S4x4x64x512 .bf16) (i : Fin 4 × Fin 4) := (slot4 M i.1 i.2).view.set
abbrev set3 (h : Fin 4) := (slot3 h).view.set

theorem set4_disjoint (M : Memref sig .tc .vmem S4x4x64x512 .bf16) (i j : Fin 4 × Fin 4) (h : i ≠ j) : Disjoint (set4 M i) (set4 M j) := by
  have e : ∀ i : Fin 4 × Fin 4, set4 M i = (M.access (r4 i.1 i.2)).set := fun i => View.set_reshape _ _
  rw [e, e]
  by_cases h1 : i.1 = j.1
  · have h2 : i.2.val ≠ j.2.val := fun e => h (Prod.ext h1 (Fin.ext e))
    exact View.disjoint_slice_of_sep M.view (r4 i.1 i.2) (r4 j.1 j.2) 1 rfl rfl (by
      show i.2.val + 1 ≤ j.2.val ∨ j.2.val + 1 ≤ i.2.val
      omega)
  · have h2 : i.1.val ≠ j.1.val := fun e => h1 (Fin.ext e)
    exact View.disjoint_slice_of_sep M.view (r4 i.1 i.2) (r4 j.1 j.2) 0 rfl rfl (by
      show i.1.val + 1 ≤ j.1.val ∨ j.1.val + 1 ≤ i.1.val
      omega)

theorem set3_disjoint (i j : Fin 4) (h : i ≠ j) : Disjoint (set3 i) (set3 j) := by
  have e : ∀ i : Fin 4, set3 i = (agM.access (r3 i)).set := fun i => View.set_reshape _ _
  rw [e, e]
  have h2 : i.val ≠ j.val := fun e => h (Fin.ext e)
  exact View.disjoint_slice_of_sep agM.view (r3 i) (r3 j) 0 rfl rfl (by
    show i.val + 1 ≤ j.val ∨ j.val + 1 ≤ i.val
    omega)

/-- What the slots leave of a 4 × 4 buffer (nothing, but this is not needed). -/
def rest4 (c : Dev nD) (M : Memref sig .tc .vmem S4x4x64x512 .bf16) : sProp 𝕄 :=
  iprop(∃ f : Buf (Elt F) (M.view.loc (c : Thread nD τ)), (M.view.loc (c : Thread nD τ)) ↦[Ring.restOf (ℓ := M.view.loc (c : Thread nD τ)) (set4 M)]{fullShare} f)
def rest3 (c : Dev nD) : sProp 𝕄 :=
  iprop(∃ f : Buf (Elt F) (agM.view.loc (c : Thread nD τ)), (agM.view.loc (c : Thread nD τ)) ↦[Ring.restOf (ℓ := agM.view.loc (c : Thread nD τ)) set3]{fullShare} f)

/-- Elements at some contents are a slot at some contents. -/
theorem owns_some (c : Dev nD) (M : Memref sig .tc .vmem S64x512 .bf16) :
    (iprop(∃ f : Buf (Elt F) (M.view.loc (c : Thread nD τ)), (M.view.loc (c : Thread nD τ)) ↦[M.view.set]{fullShare} f) : sProp 𝕄)
      ⊢ iprop(∃ X, owns (c : Thread nD τ) M fullShare X) := by
  unfold owns
  iintro ⟨%f, H⟩; iexists _; iexists f; isplitr; · ipureintro; rfl
  iexact H
theorem some_owns (c : Dev nD) (M : Memref sig .tc .vmem S64x512 .bf16) :
    (iprop(∃ X, owns (c : Thread nD τ) M fullShare X) : sProp 𝕄)
      ⊢ iprop(∃ f : Buf (Elt F) (M.view.loc (c : Thread nD τ)), (M.view.loc (c : Thread nD τ)) ↦[M.view.set]{fullShare} f) := by
  unfold owns
  iintro ⟨%X, %f, -, H⟩; iexists f; iexact H

/-- A 4 × 4 buffer is its slots, -/
theorem cut4 (c : Dev nD) (M : Memref sig .tc .vmem S4x4x64x512 .bf16) :
    (iprop(∃ f : Buf (Elt F) (M.view.loc (c : Thread nD τ)), (M.view.loc (c : Thread nD τ)) ↦{fullShare} f) : sProp 𝕄)
      ⊢ iprop((bigSep Finset.univ fun i : Fin 4 × Fin 4 => slotAny c M i.1 i.2) ∗ rest4 c M) :=
  (Ring.fam_split_ex (ℓ := M.view.loc (c : Thread nD τ)) (set4 M) (set4_disjoint M)).trans
    (sep_mono_left (bigSep_mono fun i _ => owns_some c (slot4 M i.1 i.2)))
/-- and the slots are the buffer. -/
theorem join4 (c : Dev nD) (M : Memref sig .tc .vmem S4x4x64x512 .bf16) (f₀ : Buf (Elt F) (M.view.loc (c : Thread nD τ))) :
    iprop((bigSep Finset.univ fun i : Fin 4 × Fin 4 => slotAny c M i.1 i.2) ∗ rest4 c M)
      ⊢ (iprop(∃ f : Buf (Elt F) (M.view.loc (c : Thread nD τ)), (M.view.loc (c : Thread nD τ)) ↦{fullShare} f) : sProp 𝕄) :=
  (sep_mono_left (bigSep_mono fun i _ => some_owns c (slot4 M i.1 i.2))).trans
    (Ring.fam_join (ℓ := M.view.loc (c : Thread nD τ)) (set4 M) (set4_disjoint M) f₀)
theorem cut3 (c : Dev nD) :
    (iprop(∃ f : Buf (Elt F) (agM.view.loc (c : Thread nD τ)), (agM.view.loc (c : Thread nD τ)) ↦{fullShare} f) : sProp 𝕄)
      ⊢ iprop((bigSep Finset.univ fun h : Fin 4 => iprop(∃ X, owns (c : Thread nD τ) (slot3 h) fullShare X)) ∗ rest3 c) :=
  (Ring.fam_split_ex (ℓ := agM.view.loc (c : Thread nD τ)) set3 set3_disjoint).trans
    (sep_mono_left (bigSep_mono fun i _ => owns_some c (slot3 i)))
theorem join3 (c : Dev nD) (f₀ : Buf (Elt F) (agM.view.loc (c : Thread nD τ))) :
    iprop((bigSep Finset.univ fun h : Fin 4 => iprop(∃ X, owns (c : Thread nD τ) (slot3 h) fullShare X)) ∗ rest3 c)
      ⊢ (iprop(∃ f : Buf (Elt F) (agM.view.loc (c : Thread nD τ)), (agM.view.loc (c : Thread nD τ)) ↦{fullShare} f) : sProp 𝕄) :=
  (sep_mono_left (bigSep_mono fun i _ => some_owns c (slot3 i))).trans
    (Ring.fam_join (ℓ := agM.view.loc (c : Thread nD τ)) set3 set3_disjoint f₀)

/-! ## What a device starts with -/

/-- The positions of the four cells of a pair, the tokens of the transfers it pays for, and, off the diagonal, the
credits of its two landings. -/
def ghost (c : Dev nD) (i : Fin 4 × Fin 4) : sProp 𝕄 :=
  iprop((posAt c 0 i.1 i.2 0 ∗ posAt c 1 i.1 i.2 0 ∗ posAt c 2 i.1 i.2 0 ∗ posAt c 3 i.1 i.2 0)
    ∗ (dutyTok ER (dCell c 0 i.1 i.2) 0 0 ∗ dutyTok ER (dCell i.2 1 i.1 c) 0 0 ∗ dutyTok ER (dCell c 2 i.1 i.2) 0 0 ∗ dutyTok ER (dCell i.2 3 i.1 c) 0 0)
    ∗ (if i.2 = c then iprop(emp) else iprop(cred (tallyAt (dCell c 1 i.1 i.2) () N) ∗ cred (tallyAt (dCell c 3 i.1 i.2) () N))))

/-- The inputs, staged. -/
def inSt (c : Dev nD) : sProp 𝕄 :=
  iprop((((c : Thread nD τ).loc cc0_stg0_0) ↦{fullShare} (show Buf (Elt F) ((c : Thread nD τ).loc cc0_stg0_0) from in0 m c))
    ∗ (((c : Thread nD τ).loc cc0_stg1_0) ↦{fullShare} (show Buf (Elt F) ((c : Thread nD τ).loc cc0_stg1_0) from in1 m c))
    ∗ (((c : Thread nD τ).loc cc0_stg2_0) ↦{fullShare} (show Buf (Elt F) ((c : Thread nD τ).loc cc0_stg2_0) from in2 m c))
    ∗ (((c : Thread nD τ).loc cc0_stg3_0) ↦{fullShare} (show Buf (Elt F) ((c : Thread nD τ).loc cc0_stg3_0) from in3 m c))
    ∗ (((c : Thread nD τ).loc cc0_stg4_0) ↦{fullShare} (show Buf (Elt F) ((c : Thread nD τ).loc cc0_stg4_0) from in4 m c)))

/-- The scratch buffers at any contents. -/
def scrSt (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f))

/-- What is carried along untouched: the inputs, the position of the barrier's cell, and what the slots leave of their buffers. -/
def Car (c : Dev nD) : sProp 𝕄 :=
  iprop(inSt m c ∗ atPos ER (barCell c) 1 ∅ 0 ∗ rest4 c sbM ∗ rest4 c rsM ∗ rest4 c abM ∗ rest3 c)

/-- Before the first signal. -/
def Pre (c : Dev nD) : sProp 𝕄 :=
  iprop((records m K ∗ levAts L lv) ∗ inSt m c ∗ scrSt c
    ∗ (∃ f : Buf (Elt F) ((c : Thread nD τ).loc cc0_stg5_0), ((c : Thread nD τ).loc cc0_stg5_0) ↦{fullShare} f)
    ∗ bigSep Finset.univ (ghost c) ∗ (atPos ER (barCell c) 0 ∅ 0 ∗ cred (tallyAt (barCell c) () 3)) ∗ (bigSep Finset.univ fun d : Dev nD => dutyTok ER (barCell d) 0 c)
    ∗ ∃ W, owes (c : Thread nD τ) (O₀ c) W)

/-- After the signals: the device's landing slots are with its peers. -/
def Mid (c : Dev nD) : sProp 𝕄 :=
  iprop((records m K ∗ levAts L lv) ∗ inSt m c
    ∗ (∃ f : Buf (Elt F) ((c : Thread nD τ).loc cc0_scratch0), ((c : Thread nD τ).loc cc0_scratch0) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_stg5_0), ((c : Thread nD τ).loc cc0_stg5_0) ↦{fullShare} f)
    ∗ (bigSep Finset.univ fun i : Fin 4 × Fin 4 => slotAny c sbM i.1 i.2) ∗ barPay c c
    ∗ (bigSep Finset.univ fun h : Fin 4 => iprop(∃ X, owns (c : Thread nD τ) (slot3 h) fullShare X))
    ∗ (rest4 c sbM ∗ rest4 c rsM ∗ rest4 c abM ∗ rest3 c)
    ∗ bigSep Finset.univ (ghost c) ∗ (atPos ER (barCell c) 0 ∅ 0 ∗ cred (tallyAt (barCell c) () 3))
    ∗ ∃ W, owes (c : Thread nD τ) (OD 1 c 0 + OD 3 c 0) W)

/-- A family over the devices, read from device `c` on around the mesh. -/
theorem around (c : Fin 4) (Φ : Fin 4 → sProp 𝕄) : bigSep Finset.univ Φ = iprop(Φ c ∗ Φ (c + 1) ∗ Φ (c + 2) ∗ Φ (c + 3)) :=
  bigSep_univ_eq_bigSepL [c, c + 1, c + 2, c + 3] (by revert c; decide) (by revert c; decide) Φ

/-- The landing slots of device `c`, grouped by the peer that fills them. -/
theorem slots_by_peer (c : Dev nD) :
    iprop((bigSep Finset.univ fun i : Fin 4 × Fin 4 => slotAny c rsM i.1 i.2) ∗ (bigSep Finset.univ fun i : Fin 4 × Fin 4 => slotAny c abM i.1 i.2))
      ⊢ (bigSep Finset.univ fun d : Dev nD => barPay d c : sProp 𝕄) := by
  rw [← bigSep_sep', bigSep_univ_equiv (Equiv.prodComm (Fin 4) (Fin 4)) (fun i : Fin 4 × Fin 4 => iprop(slotAny (F := F) c rsM i.1 i.2 ∗ slotAny c abM i.1 i.2)),
    bigSep_univ_prod]
  exact BI.Entails.refl _

/-- The landing slots that the peers of `c` hand to it, with its own. -/
theorem slots_to_fill (c : Dev nD) :
    (bigSep Finset.univ fun d : Dev nD => barPay c d : sProp 𝕄)
      ⊢ bigSep Finset.univ fun i : Fin 4 × Fin 4 => iprop(slotAny (F := F) i.2 rsM i.1 c ∗ slotAny i.2 abM i.1 c) := by
  rw [bigSep_univ_equiv (Equiv.prodComm (Fin 4) (Fin 4)) (fun i : Fin 4 × Fin 4 => iprop(slotAny (F := F) i.2 rsM i.1 c ∗ slotAny i.2 abM i.1 c)),
    bigSep_univ_prod]
  exact BI.Entails.refl _

/-- One signal: a unit on peer `d`'s barrier, with the slots `d` may fill. -/
theorem step_sig {α : Type} {Qa : α → sProp 𝕄} (c d : Dev nD) (n : ℕ) (hn : n = ord c d) (hd : d ≠ c) (O : CellTallies nD τ sig Unit) (W : Waits sig Unit)
    {dst : Dev nD} (hdst : dst = d) {kk : PUnit → Prog (TpuEff nD τ sig (Elt F) Λ₀ .tc) α} :
    iprop(records m K ∗ owes (c : Thread nD τ) (O + OB c n) W ∗ dutyTok ER (barCell d) 0 c ∗ barPay d c)
      ⊢ iprop((owes (c : Thread nD τ) (O + OB c (n + 1)) W -∗ WP c (kk ⟨⟩) Qa) -∗ WP c (.op (.semSignal (dst : Thread nD τ) barS 1) kk) Qa) := by
  subst hdst
  rw [OB_peel c dst n hn hd]
  iintro ⟨#Hrec, HO, Ht, Hp⟩
  iapply (Rounds.wp_signal 𝒱₀ ER (Rd m) (c : Thread nD τ) none (dst := (dst : Thread nD τ)) (κ := K (dst, none))
      (d := c) (by rw [duties_bar]; exact Finset.mem_erase.mpr ⟨Ne.symm hd, Finset.mem_univ _⟩) (amount_bar m dst c) () (O + OB c (n + 1))
      (by rw [add_assoc])) $$ [HO Ht Hp]
  isplitr; · iapply (inv_bar m K dst); iexact Hrec
  isplitl [HO]; · iexact HO
  isplitl [Ht]; · iexact Ht
  isplitl [Hp]; · rw [payload_bar]; iexact Hp
  iapply (reached_bar m K dst); iexact Hrec

theorem peers (c : Dev nD) : (0 = ord c (c + 1) ∧ c + 1 ≠ c) ∧ (1 = ord c (c + 2) ∧ c + 2 ≠ c) ∧ (2 = ord c (c + 3) ∧ c + 3 ≠ c) := by
  revert c; decide

set_option maxHeartbeats 1000000 in
/-- The barrier's three signals. -/
theorem step_sigs {α : Type} {Qa : α → sProp 𝕄} (c : Dev nD) {d1 d2 d3 : Dev nD} (h1 : d1 = c + 1) (h2 : d2 = c + 2) (h3 : d3 = c + 3)
    {kk : Prog (TpuEff nD τ sig (Elt F) Λ₀ .tc) α} (hk : Mid m K c ⊢ WP c kk Qa) :
    Pre m K c ⊢ WP c (semSignalWord d1 barS 1#32 >>= fun _ => semSignalWord d2 barS 1#32 >>= fun _ =>
      semSignalWord d3 barS 1#32 >>= fun _ => kk) Qa := by
  simp only [semSignalWord, Prog.lift, Prog.bind_op, Prog.bind_ret]
  unfold Pre scrSt O₀
  iintro ⟨⟨#Hrec, #Hlev⟩, Hin, ⟨H0, H1, H2, H3, H4, H5⟩, Hout, Hg, Hb, Ht, ⟨%W, HO⟩⟩
  ihave H1 := (cut4 (F := F) c sbM) $$ H1
  icases H1 with ⟨H1, Hr1⟩
  ihave H4 := (cut4 (F := F) c rsM) $$ H4
  icases H4 with ⟨H4, Hr4⟩
  ihave H5 := (cut4 (F := F) c abM) $$ H5
  icases H5 with ⟨H5, Hr5⟩
  ihave H3 := (cut3 (F := F) c) $$ H3
  icases H3 with ⟨H3, Hr3⟩
  ihave Hp := (slots_by_peer (F := F) c) $$ [H4 H5]
  · isplitl [H4] <;> iassumption
  ihave Hp := (Entails.of_eq (around (F := F) c _)) $$ Hp
  ihave Ht := (Entails.of_eq (around (F := F) c _)) $$ Ht
  icases Hp with ⟨Hp0, Hp1, Hp2, Hp3⟩
  icases Ht with ⟨-, Ht1, Ht2, Ht3⟩
  iapply (step_sig m K c (c + 1) 0 (peers c).1.1 (peers c).1.2 (OD 1 c 0 + OD 3 c 0) W h1) $$ [HO Ht1 Hp1]
  · isplitr; · iexact Hrec
    isplitl [HO]; · iexact HO
    isplitl [Ht1] <;> iassumption
  iintro HO
  iapply (step_sig m K c (c + 2) 1 (peers c).2.1.1 (peers c).2.1.2 (OD 1 c 0 + OD 3 c 0) W h2) $$ [HO Ht2 Hp2]
  · isplitr; · iexact Hrec
    isplitl [HO]; · iexact HO
    isplitl [Ht2] <;> iassumption
  iintro HO
  iapply (step_sig m K c (c + 3) 2 (peers c).2.2.1 (peers c).2.2.2 (OD 1 c 0 + OD 3 c 0) W h3) $$ [HO Ht3 Hp3]
  · isplitr; · iexact Hrec
    isplitl [HO]; · iexact HO
    isplitl [Ht3] <;> iassumption
  iintro HO
  rw [OB_end, add_zero]
  iapply hk
  unfold Mid
  isplitr
  · isplitr; · iexact Hrec
    iexact Hlev
  isplitl [Hin]; · iexact Hin
  isplitl [H0]; · iexact H0
  isplitl [H2]; · iexact H2
  isplitl [Hout]; · iexact Hout
  isplitl [H1]; · iexact H1
  isplitl [Hp0]; · iexact Hp0
  isplitl [H3]; · iexact H3
  isplitl [Hr1 Hr4 Hr5 Hr3]
  · isplitl [Hr1]; · iexact Hr1
    isplitl [Hr4]; · iexact Hr4
    isplitl [Hr5]; · iexact Hr5
    iexact Hr3
  isplitl [Hg]; · iexact Hg
  isplitl [Hb]; · iexact Hb
  iexists W; iexact HO

/-- What the families need at one pair. -/
theorem open_at (c : Dev nD) (i : Fin 4 × Fin 4) :
    iprop(ghost (F := F) c i ∗ slotAny c sbM i.1 i.2 ∗ (slotAny i.2 rsM i.1 c ∗ slotAny i.2 abM i.1 c))
      ⊢ iprop(fA (F := F) c 0 0 i ∗ fB c 0 i ∗ fC c 0 0 i ∗ fE c 0 i) := by
  unfold ghost fA fB fC fE
  by_cases h : i.2 = c
  · simp only [if_pos h]
    iintro ⟨⟨⟨P0, P1, P2, P3⟩, -, -⟩, Hs, Hr, Ha⟩
    isplitl [P0 Hs]; · isplitl [P0] <;> iassumption
    isplitl [P1 Hr]
    · isplitl [P1]; · iexact P1
      rw [← h]; rw [h]; iexact Hr
    isplitl [P2]; · iexact P2
    isplitl [P3]; · iexact P3
    rw [← h]; rw [h]; iexact Ha
  · simp only [if_neg h, if_neg (Nat.not_lt_zero _)]
    iintro ⟨⟨⟨P0, P1, P2, P3⟩, ⟨T0, T1, T2, T3⟩, C1, C3⟩, Hs, Hr, Ha⟩
    isplitl [P0 Hs Hr T0 T1]
    · isplitl [P0]; · iexact P0
      isplitl [Hs]; · iexact Hs
      isplitl [Hr]; · iexact Hr
      isplitl [T0] <;> iassumption
    isplitl [P1 C1]; · isplitl [P1] <;> iassumption
    isplitl [P2 Ha T2 T3]
    · isplitl [P2]; · iexact P2
      isplitl [Ha]; · iexact Ha
      isplitl [T2] <;> iassumption
    isplitl [P3] <;> iassumption

theorem open_fams (c : Dev nD) :
    iprop(bigSep Finset.univ (ghost (F := F) c) ∗ (bigSep Finset.univ fun i : Fin 4 × Fin 4 => slotAny c sbM i.1 i.2)
        ∗ (bigSep Finset.univ fun i : Fin 4 × Fin 4 => iprop(slotAny (F := F) i.2 rsM i.1 c ∗ slotAny i.2 abM i.1 c)))
      ⊢ iprop(bigSep Finset.univ (fA (F := F) c 0 0) ∗ bigSep Finset.univ (fB (F := F) c 0) ∗ bigSep Finset.univ (fC (F := F) c 0 0) ∗ bigSep Finset.univ (fE (F := F) c 0)) := by
  simp only [← bigSep_sep']
  exact bigSep_mono fun i _ => open_at c i

/-- The left operand stored, and the barrier's wait: every peer has entered, and its slots for this device are here. -/
theorem step_start {α : Type} {Qa : α → sProp 𝕄} (c : Dev nD) {w : Vec F S1024x1280 .bf16} (hw : w = xsv m c)
    {off : Fin 2 → ℕ} (ho : off = fun _ => 0) {inb : ∀ a, off a + S1024x1280.size a ≤ S1024x1280.size a}
    {hl : xsM.view.LoadsAt (Rect.unit (s := S1024x1280) off S1024x1280.size inb).toLoadRect}
    {hx : (xsM.access (Rect.unit (s := S1024x1280) off S1024x1280.size inb)).Stores Finset.univ}
    {hm : (Finset.univ : Finset S1024x1280.Idx) = Finset.univ ∨ ∀ a, (Rect.unit (s := S1024x1280) off S1024x1280.size inb).stride a = 1}
    {kk : Prog (TpuEff nD τ sig (Elt F) Λ₀ .tc) α} (hk : St m K (Car m c) c 0 0 0 0 0 False 0 0 ⊢ WP c kk Qa) :
    Mid m K c ⊢ WP c (Prog.lift (.load xsM (Rect.unit (s := S1024x1280) off S1024x1280.size inb).toLoadRect hl) >>= fun _ =>
      Prog.lift (.store xsM (Rect.unit (s := S1024x1280) off S1024x1280.size inb) w Finset.univ hx hm) >>= fun _ =>
      semWaitWord barS 3#32 >>= fun _ => kk) Qa := by
  subst hw
  simp only [semWaitWord, Prog.lift, Prog.bind_op, Prog.bind_ret]
  unfold Mid
  iintro ⟨⟨#Hrec, #Hlev⟩, Hin, ⟨%f0, H0⟩, ⟨%f2, H2⟩, ⟨%fo, Hout⟩, H1, Hp0, H3, ⟨Hr1, Hr4, Hr5, Hr3⟩, Hg, ⟨Hb, Hc⟩, ⟨%W, HO⟩⟩
  iapply (wp_load 𝒱₀ (c : Thread nD τ) none Set.univ (m := xsM) (Finset.subset_univ _)) $$ H0; iintro H0
  iapply (wp_store 𝒱₀ (c : Thread nD τ) none Set.univ (m := xsM) (r := Rect.unit (s := S1024x1280) off S1024x1280.size inb) (Mk := Finset.univ) (Finset.subset_univ _)) $$ H0
  iintro H0
  iapply (Rounds.wp_wait_rest_token 𝒱₀ ER (Rd m) (c : Thread nD τ) none (κ := K (c, none)) (k' := 3)
      (wpE_semWait_eq 𝒱₀ (c : Thread nD τ) none Set.univ) (Set.mem_univ _) () (O := OD 1 c 0 + OD 3 c 0) (W := W) (R := 0) (m := 0) (T := ∅)
      (by rw [Nat.zero_add, expect_bar])) $$ [Hb Hc HO]
  · isplitr; · iapply (inv_bar m K c); iexact Hrec
    isplitl [Hc]; · iexact Hc
    isplitl [HO]; · iexact HO
    isplitr; · iapply (mayWait_bar c 0 0); iexact Hlev
    iexact Hb
  iintro ⟨HO, Hb, -, Hpay⟩
  ihave Hp := (Entails.of_eq (rest_bar m c)) $$ Hpay
  ihave Hp := (Entails.of_eq (bigSep_univ_at (fun d : Dev nD => barPay (F := F) c d) c).symm) $$ [Hp0 Hp]
  · isplitl [Hp0] <;> iassumption
  ihave Hp := (slots_to_fill (F := F) c) $$ Hp
  ihave Hf := (open_fams (F := F) c) $$ [Hg H1 Hp]
  · isplitl [Hg]; · iexact Hg
    isplitl [H1] <;> iassumption
  icases Hf with ⟨HA, HB, HC, HE⟩
  iapply hk
  unfold St xsSt redSt outSt owesSt Car
  isplitr
  · isplitr; · iexact Hrec
    iexact Hlev
  isplitl [H0]
  · ihave H0 := (Entails.of_eq (congrArg (fun f : Buf (Elt F) ((c : Thread nD τ).loc cc0_scratch0) => (((c : Thread nD τ).loc cc0_scratch0) ↦{fullShare} f : sProp 𝕄))
      (Memref.write_access_unit_zero_univ (Elt F) cc0_scratch0 ho inb f0 (xsv m c)))) $$ H0
    iexact H0
  isplitl [HA]; · iexact HA
  isplitl [H2]
  · iexists f2; isplitr [H2]; swap; · iexact H2
    ipureintro; intro h hh; exact absurd hh (Nat.not_lt_zero _)
  isplitl [HB]; · iexact HB
  isplitl [HC]; · iexact HC
  isplitl [H3]
  · rw [bigSep_congr (s := Finset.univ) (Φ := fS m c 0 0 0) (Ψ := fun h : Fin 4 => iprop(∃ X, owns (c : Thread nD τ) (slot3 h) fullShare X)) fun h _ => by
      unfold fS; rw [if_neg (Nat.not_lt_zero _)]]
    iexact H3
  isplitl [Hout]
  · iexists fo; isplitr [Hout]; swap; · iexact Hout
    ipureintro; intro k h hh
    exfalso; revert hh; split
    · exact id
    · exact Nat.not_lt_zero _
  isplitl [HE]; · iexact HE
  isplitl [HO]; · iexists _; iexact HO
  isplitl [Hin]; · iexact Hin
  isplitl [Hb]; · iexact Hb
  isplitl [Hr1]; · iexact Hr1
  isplitl [Hr4]; · iexact Hr4
  isplitl [Hr5]; · iexact Hr5
  iexact Hr3

end Cert.MoeProof

end
-- ==== Proof.PartH.lean ====
/-
# The first parts of the body

The signals, the inputs, the left operand, the barrier and the first block.
-/
module

public import proofs.«01_k».proof.Proof.Start

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)
set_option maxHeartbeats 4000000

/-! ## Reading the inputs -/

/-- The device's number. -/
theorem step_dev {α : Type} {Qa : α → sProp 𝕄} {P : sProp 𝕄} (c : Dev nD) {kk : Dev nD → Prog (TpuEff nD τ sig (Elt F) Λ₀ .tc) α}
    (hk : P ⊢ WP c (kk c) Qa) : P ⊢ WP c (Prog.lift .deviceId >>= kk) Qa := by
  simp only [Prog.lift, Prog.bind_op, Prog.bind_ret, wp_deviceId]
  exact hk

/-- A load from a buffer that the state holds. -/
theorem step_ld {α : Type} {Qa : α → sProp 𝕄} {P : sProp 𝕄} (c : Dev nD) {s : Shape} {e : EltTy} (M : Memref sig .tc .vmem s e) (r : Rect s)
    (f : Buf (Elt F) (M.view.loc (c : Thread nD τ))) {v : Vec F r.shape e} (hv : (M.access r).read (Elt F) f = v)
    (hP : P ⊢ iprop(((M.view.loc (c : Thread nD τ)) ↦{fullShare} f) ∗ (((M.view.loc (c : Thread nD τ)) ↦{fullShare} f) -∗ P)))
    {hl : M.view.LoadsAt r.toLoadRect} {kk : Vec F r.shape e → Prog (TpuEff nD τ sig (Elt F) Λ₀ .tc) α}
    (hk : P ⊢ WP c (kk v) Qa) : P ⊢ WP c (Prog.lift (.load M r.toLoadRect hl) >>= kk) Qa := by
  subst hv
  simp only [Prog.lift, Prog.bind_op, Prog.bind_ret]
  refine keep hk ?_
  iintro ⟨Hk, HP⟩
  ihave H := hP $$ HP
  icases H with ⟨H, Hb⟩
  iapply (wp_load_rect 𝒱₀ (c : Thread nD τ) none Set.univ (m := M) (r := r) (Finset.subset_univ _)) $$ H
  iintro H
  iapply Hk
  iapply Hb; iexact H

/-- The state holds the inputs. -/
theorem Mid_in (c : Dev nD) {A : sProp 𝕄} (h : inSt m c ⊢ iprop(A ∗ (A -∗ inSt m c))) : Mid m K c ⊢ iprop(A ∗ (A -∗ Mid m K c)) := by
  unfold Mid
  iintro ⟨H1, H2, H3⟩
  ihave H2 := h $$ H2
  icases H2 with ⟨HA, HB⟩
  isplitl [HA]; · iexact HA
  iintro HA
  isplitl [H1]; · iexact H1
  isplitl [HA HB]; · iapply HB; iexact HA
  iexact H3

theorem in0_get (c : Dev nD) : inSt m c ⊢ iprop((((c : Thread nD τ).loc cc0_stg0_0) ↦{fullShare} (show Buf (Elt F) ((c : Thread nD τ).loc cc0_stg0_0) from in0 m c))
    ∗ ((((c : Thread nD τ).loc cc0_stg0_0) ↦{fullShare} (show Buf (Elt F) ((c : Thread nD τ).loc cc0_stg0_0) from in0 m c)) -∗ inSt m c)) := by
  unfold inSt
  iintro ⟨H0, H1, H2, H3, H4⟩
  isplitl [H0]; · iexact H0
  iintro H0
  isplitl [H0]; · iexact H0
  isplitl [H1]; · iexact H1
  isplitl [H2]; · iexact H2
  isplitl [H3]; · iexact H3
  iexact H4
theorem in1_get (c : Dev nD) : inSt m c ⊢ iprop((((c : Thread nD τ).loc cc0_stg1_0) ↦{fullShare} (show Buf (Elt F) ((c : Thread nD τ).loc cc0_stg1_0) from in1 m c))
    ∗ ((((c : Thread nD τ).loc cc0_stg1_0) ↦{fullShare} (show Buf (Elt F) ((c : Thread nD τ).loc cc0_stg1_0) from in1 m c)) -∗ inSt m c)) := by
  unfold inSt
  iintro ⟨H0, H1, H2, H3, H4⟩
  isplitl [H1]; · iexact H1
  iintro H1
  isplitl [H0]; · iexact H0
  isplitl [H1]; · iexact H1
  isplitl [H2]; · iexact H2
  isplitl [H3]; · iexact H3
  iexact H4
theorem in2_get (c : Dev nD) : inSt m c ⊢ iprop((((c : Thread nD τ).loc cc0_stg2_0) ↦{fullShare} (show Buf (Elt F) ((c : Thread nD τ).loc cc0_stg2_0) from in2 m c))
    ∗ ((((c : Thread nD τ).loc cc0_stg2_0) ↦{fullShare} (show Buf (Elt F) ((c : Thread nD τ).loc cc0_stg2_0) from in2 m c)) -∗ inSt m c)) := by
  unfold inSt
  iintro ⟨H0, H1, H2, H3, H4⟩
  isplitl [H2]; · iexact H2
  iintro H2
  isplitl [H0]; · iexact H0
  isplitl [H1]; · iexact H1
  isplitl [H2]; · iexact H2
  isplitl [H3]; · iexact H3
  iexact H4
theorem in3_get (c : Dev nD) : inSt m c ⊢ iprop((((c : Thread nD τ).loc cc0_stg3_0) ↦{fullShare} (show Buf (Elt F) ((c : Thread nD τ).loc cc0_stg3_0) from in3 m c))
    ∗ ((((c : Thread nD τ).loc cc0_stg3_0) ↦{fullShare} (show Buf (Elt F) ((c : Thread nD τ).loc cc0_stg3_0) from in3 m c)) -∗ inSt m c)) := by
  unfold inSt
  iintro ⟨H0, H1, H2, H3, H4⟩
  isplitl [H3]; · iexact H3
  iintro H3
  isplitl [H0]; · iexact H0
  isplitl [H1]; · iexact H1
  isplitl [H2]; · iexact H2
  isplitl [H3]; · iexact H3
  iexact H4
theorem in4_get (c : Dev nD) : inSt m c ⊢ iprop((((c : Thread nD τ).loc cc0_stg4_0) ↦{fullShare} (show Buf (Elt F) ((c : Thread nD τ).loc cc0_stg4_0) from in4 m c))
    ∗ ((((c : Thread nD τ).loc cc0_stg4_0) ↦{fullShare} (show Buf (Elt F) ((c : Thread nD τ).loc cc0_stg4_0) from in4 m c)) -∗ inSt m c)) := by
  unfold inSt
  iintro ⟨H0, H1, H2, H3, H4⟩
  isplitl [H4]; · iexact H4
  iintro H4
  isplitl [H0]; · iexact H0
  isplitl [H1]; · iexact H1
  isplitl [H2]; · iexact H2
  isplitl [H3]; · iexact H3
  iexact H4

theorem off2_zero : (![0, 0] : Fin 2 → ℕ) = fun _ => 0 := by decide

/-! ## The first three parts -/

/-- The signals, and the router's inputs. -/
theorem part1 (c : Dev nD) {Qa : (Σ' (_ : Dev nD) (_ : BitVec 32) (_ : Sems sig S_) (_ : FVec F S1024x256 .bf16), FVec F S1024x16 .f32) → sProp 𝕄}
    (hk : Mid m K c ⊢ Qa ⟨c, vdev c, SemArray.scalar (sig.barrier 0 rfl), k0_pay1 (in0 m c), probs m c⟩) :
    Pre m K c ⊢ WP c (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9) Qa := by
  rw [k0_part1_eq_skeleton]; unfold k0_part1_skel
  refine step_dev c ?_
  refine step_sigs m K c (by clear hk; revert c; decide) (by clear hk; revert c; decide) (by clear hk; revert c; decide) ?_
  refine step_ld c (Memref.whole cc0_stg0_0) _ (in0 m c) (v := in0 m c) (by exact Memref.readAt_unit_zero (Elt F) cc0_stg0_0 off2_zero _ _) (Mid_in m K c (in0_get m c)) ?_
  refine step_ld c (Memref.whole cc0_stg1_0) _ (in1 m c) (v := in1 m c) (by exact Memref.readAt_unit_zero (Elt F) cc0_stg1_0 off2_zero _ _) (Mid_in m K c (in1_get m c)) ?_
  exact ret c hk

/-- The token's choices and the weights. -/
theorem part2 (c : Dev nD) {Qa : (Σ' (_ : IVec S1024x1 32) (_ : FVec F S1024x1 .f32) (_ : FVec F S1024x256 .bf16) (_ : FVec F S1280x512 .bf16) (_ : FVec F S1024x1 .bf16) (_ : FVec F S1024x1 .bf16), BitVec 32) → sProp 𝕄}
    (hk : Mid m K c ⊢ Qa ⟨k0_pay3 (in2 m c), k0_pay4 (probs m c) (in2 m c), k0_pay5 (k0_pay1 (in0 m c)), wst m c,
      k0_pay7 (vdev c) (probs m c) (in2 m c), k0_pay8 (vdev c) (probs m c) (in2 m c), 4#32⟩) :
    Mid m K c ⊢ WP c (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9
      (vdev c) (k0_pay1 (in0 m c)) (probs m c)) Qa := by
  rw [k0_part2_eq_skeleton]; unfold k0_part2_skel
  refine step_ld c (Memref.whole cc0_stg2_0) _ (in2 m c) (v := in2 m c) (by exact Memref.readAt_unit_zero (Elt F) cc0_stg2_0 off2_zero _ _) (Mid_in m K c (in2_get m c)) ?_
  refine step_ld c (Memref.whole cc0_stg4_0) _ (in4 m c) (v := in4 m c) (by exact Memref.readAt_unit_zero (Elt F) cc0_stg4_0 off2_zero _ _) (Mid_in m K c (in4_get m c)) ?_
  refine step_ld c (Memref.whole cc0_stg3_0) _ (in3 m c) (v := ewAt m c 0) rfl (Mid_in m K c (in3_get m c)) ?_
  refine step_ld c (Memref.whole cc0_stg3_0) _ (in3 m c) (v := ewAt m c 1) rfl (Mid_in m K c (in3_get m c)) ?_
  refine step_ld c (Memref.whole cc0_stg3_0) _ (in3 m c) (v := ewAt m c 2) rfl (Mid_in m K c (in3_get m c)) ?_
  refine step_ld c (Memref.whole cc0_stg3_0) _ (in3 m c) (v := ewAt m c 3) rfl (Mid_in m K c (in3_get m c)) ?_
  exact ret c hk

/-- The left operand, the barrier, and the first block. -/
theorem part3 (c : Dev nD) {Qa : (Σ' (_ : FVec F S64x512 .f32), BitVec 32) → sProp 𝕄}
    (hk : St m K (Car m c) c 1 1 0 0 0 False 0 0 ⊢ Qa ⟨part m c 1 0, 1#32⟩) :
    Mid m K c ⊢ WP c (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9
      c (vdev c) (SemArray.scalar (sig.barrier 0 rfl)) (k0_pay1 (in0 m c)) (k0_pay3 (in2 m c)) (k0_pay4 (probs m c) (in2 m c)) (k0_pay5 (k0_pay1 (in0 m c))) (wst m c)
      (k0_pay7 (vdev c) (probs m c) (in2 m c)) (k0_pay8 (vdev c) (probs m c) (in2 m c)) 4#32) Qa := by
  rw [k0_part3_eq_skeleton]; unfold k0_part3_skel
  refine step_start m K c rfl off2_zero ?_
  refine step_x m K _ c 0 0 ?_
  refine step_red m K _ c 0 0 _ rfl (cond_eq c 0) (shapeCast_self _ _) ?_
  refine step_send m K _ c 0 0 _ rfl (cond_ne c 0) rfl (fun _ => rfl) (fun _ => slot_dyn rsM 0 c _ rfl _ _ _)
    (sem_rs_send 0 0 _ rfl _ _) (fun _ => sem_rs_recv 0 c _ (sem_off 0 c _ rfl) _ _) ?_
  refine step_x m K _ c 1 0 ?_
  exact ret c hk

end Cert.MoeProof

end
-- ==== Proof.PartA.lean ====
/-
# Part of the body

The printed body's parts, block by block.
-/
module

public import proofs.«01_k».proof.Proof.PartBase

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)
set_option maxHeartbeats 4000000

/-- Blocks of the reduce phase, quarter 0. -/
theorem part4 (R : sProp 𝕄) (c : Dev nD) {Qa : (Σ' (_ : Vec F S64x512 .f32) (_ : BitVec 32), BitVec 32) → sProp 𝕄}
    (hk : St m K R c 4 5 0 0 0 False 0 0 ⊢ Qa ⟨part m c 0 1, (Scalar.extui (Scalar.cmpi .ne (vdev c) 0#32)), 0#32⟩) :
    St m K R c 1 1 0 0 0 False 0 0 ⊢ WP c (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9
      c (vdev c) (wst m c) (part m c 1 0) 1#32) Qa := by
  rw [k0_part4_eq_skeleton]; unfold k0_part4_skel
  refine step_red m K R c 1 0 _ rfl (cond_eq c 1) (shapeCast_self _ _) ?_
  refine step_send m K R c 1 0 _ rfl (cond_ne c 1) rfl (fun _ => rfl) (fun _ => slot_dyn rsM 0 c _ rfl _ _ _)
    (sem_rs_send 0 1 _ rfl _ _) (fun _ => sem_rs_recv 0 c _ (sem_off 0 c _ rfl) _ _) ?_
  refine step_x m K R c 2 0 ?_
  refine step_red m K R c 2 0 _ rfl (cond_eq c 2) (shapeCast_self _ _) ?_
  refine step_send m K R c 2 0 _ rfl (cond_ne c 2) rfl (fun _ => rfl) (fun _ => slot_dyn rsM 0 c _ rfl _ _ _)
    (sem_rs_send 0 2 _ rfl _ _) (fun _ => sem_rs_recv 0 c _ (sem_off 0 c _ rfl) _ _) ?_
  refine step_x m K R c 3 0 ?_
  refine step_red m K R c 3 0 _ rfl (cond_eq c 3) (shapeCast_self _ _) ?_
  refine step_send m K R c 3 0 _ rfl (cond_ne c 3) rfl (fun _ => rfl) (fun _ => slot_dyn rsM 0 c _ rfl _ _ _)
    (sem_rs_send 0 3 _ rfl _ _) (fun _ => sem_rs_recv 0 c _ (sem_off 0 c _ rfl) _ _) ?_
  refine step_x m K R c 0 1 ?_
  refine step_red m K R c 0 1 _ rfl (cond_eq c 0) (shapeCast_self _ _) ?_
  exact ret c hk

/-- Blocks of the reduce phase, quarter 1. -/
theorem part5 (R : sProp 𝕄) (c : Dev nD) (u v : BitVec 32) {Qa : (Σ' (_ : Vec F S64x512 .f32), BitVec 1) → sProp 𝕄}
    (hk : St m K R c 8 8 0 0 0 False 0 0 ⊢ Qa ⟨part m c 0 2, Scalar.cmpi .eq (vdev c) 0#32⟩) :
    St m K R c 4 5 0 0 0 False 0 0 ⊢ WP c (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9
      c (vdev c) (wst m c) (part m c 0 1) u v) Qa := by
  rw [k0_part5_eq_skeleton]; unfold k0_part5_skel
  refine step_send m K R c 0 1 _ rfl (cond_ne c 0) rfl (fun _ => rfl) (fun _ => slot_dyn rsM 1 c _ rfl _ _ _)
    (sem_rs_send 1 0 _ rfl _ _) (fun _ => sem_rs_recv 1 c _ (sem_off 1 c _ rfl) _ _) ?_
  refine step_x m K R c 1 1 ?_
  refine step_red m K R c 1 1 _ rfl (cond_eq c 1) (shapeCast_self _ _) ?_
  refine step_send m K R c 1 1 _ rfl (cond_ne c 1) rfl (fun _ => rfl) (fun _ => slot_dyn rsM 1 c _ rfl _ _ _)
    (sem_rs_send 1 1 _ rfl _ _) (fun _ => sem_rs_recv 1 c _ (sem_off 1 c _ rfl) _ _) ?_
  refine step_x m K R c 2 1 ?_
  refine step_red m K R c 2 1 _ rfl (cond_eq c 2) (shapeCast_self _ _) ?_
  refine step_send m K R c 2 1 _ rfl (cond_ne c 2) rfl (fun _ => rfl) (fun _ => slot_dyn rsM 1 c _ rfl _ _ _)
    (sem_rs_send 1 2 _ rfl _ _) (fun _ => sem_rs_recv 1 c _ (sem_off 1 c _ rfl) _ _) ?_
  refine step_x m K R c 3 1 ?_
  refine step_red m K R c 3 1 _ rfl (cond_eq c 3) (shapeCast_self _ _) ?_
  refine step_send m K R c 3 1 _ rfl (cond_ne c 3) rfl (fun _ => rfl) (fun _ => slot_dyn rsM 1 c _ rfl _ _ _)
    (sem_rs_send 1 3 _ rfl _ _) (fun _ => sem_rs_recv 1 c _ (sem_off 1 c _ rfl) _ _) ?_
  refine step_x m K R c 0 2 ?_
  exact ret c hk

end Cert.MoeProof

end
-- ==== Proof.PartB.lean ====
/-
# Part of the body

The printed body's parts, block by block.
-/
module

public import proofs.«01_k».proof.Proof.PartBase

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)
set_option maxHeartbeats 4000000

/-- Blocks of the reduce phase, quarter 2. -/
theorem part6 (R : sProp 𝕄) (c : Dev nD) {Qa : (Vec F S64x512 .f32) → sProp 𝕄}
    (hk : St m K R c 11 12 0 0 0 False 0 0 ⊢ Qa (part m c 3 2)) :
    St m K R c 8 8 0 0 0 False 0 0 ⊢ WP c (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9
      c (vdev c) (wst m c) (part m c 0 2) (Scalar.cmpi .eq (vdev c) 0#32)) Qa := by
  rw [k0_part6_eq_skeleton]; unfold k0_part6_skel
  refine step_red m K R c 0 2 _ rfl (cond_eq c 0) (shapeCast_self _ _) ?_
  refine step_send m K R c 0 2 _ rfl (cond_ne c 0) rfl (fun _ => rfl) (fun _ => slot_dyn rsM 2 c _ rfl _ _ _)
    (sem_rs_send 2 0 _ rfl _ _) (fun _ => sem_rs_recv 2 c _ (sem_off 2 c _ rfl) _ _) ?_
  refine step_x m K R c 1 2 ?_
  refine step_red m K R c 1 2 _ rfl (cond_eq c 1) (shapeCast_self _ _) ?_
  refine step_send m K R c 1 2 _ rfl (cond_ne c 1) rfl (fun _ => rfl) (fun _ => slot_dyn rsM 2 c _ rfl _ _ _)
    (sem_rs_send 2 1 _ rfl _ _) (fun _ => sem_rs_recv 2 c _ (sem_off 2 c _ rfl) _ _) ?_
  refine step_x m K R c 2 2 ?_
  refine step_red m K R c 2 2 _ rfl (cond_eq c 2) (shapeCast_self _ _) ?_
  refine step_send m K R c 2 2 _ rfl (cond_ne c 2) rfl (fun _ => rfl) (fun _ => slot_dyn rsM 2 c _ rfl _ _ _)
    (sem_rs_send 2 2 _ rfl _ _) (fun _ => sem_rs_recv 2 c _ (sem_off 2 c _ rfl) _ _) ?_
  refine step_x m K R c 3 2 ?_
  refine step_red m K R c 3 2 _ rfl (cond_eq c 3) (shapeCast_self _ _) ?_
  exact ret c hk

/-- Blocks of the reduce phase, quarter 3. -/
theorem part7 (R : sProp 𝕄) (c : Dev nD) {Qa : (Σ' (_ : Vec F S64x512 .f32), BitVec 32) → sProp 𝕄}
    (hk : St m K R c 15 15 0 0 0 False 0 0 ⊢ Qa ⟨part m c 3 3, Scalar.extui (Scalar.cmpi .eq (vdev c) 3#32)⟩) :
    St m K R c 11 12 0 0 0 False 0 0 ⊢ WP c (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9
      c (vdev c) (wst m c) (part m c 3 2)) Qa := by
  rw [k0_part7_eq_skeleton]; unfold k0_part7_skel
  refine step_send m K R c 3 2 _ rfl (cond_ne c 3) rfl (fun _ => rfl) (fun _ => slot_dyn rsM 2 c _ rfl _ _ _)
    (sem_rs_send 2 3 _ rfl _ _) (fun _ => sem_rs_recv 2 c _ (sem_off 2 c _ rfl) _ _) ?_
  refine step_x m K R c 0 3 ?_
  refine step_red m K R c 0 3 _ rfl (cond_eq c 0) (shapeCast_self _ _) ?_
  refine step_send m K R c 0 3 _ rfl (cond_ne c 0) rfl (fun _ => rfl) (fun _ => slot_dyn rsM 3 c _ rfl _ _ _)
    (sem_rs_send 3 0 _ rfl _ _) (fun _ => sem_rs_recv 3 c _ (sem_off 3 c _ rfl) _ _) ?_
  refine step_x m K R c 1 3 ?_
  refine step_red m K R c 1 3 _ rfl (cond_eq c 1) (shapeCast_self _ _) ?_
  refine step_send m K R c 1 3 _ rfl (cond_ne c 1) rfl (fun _ => rfl) (fun _ => slot_dyn rsM 3 c _ rfl _ _ _)
    (sem_rs_send 3 1 _ rfl _ _) (fun _ => sem_rs_recv 3 c _ (sem_off 3 c _ rfl) _ _) ?_
  refine step_x m K R c 2 3 ?_
  refine step_red m K R c 2 3 _ rfl (cond_eq c 2) (shapeCast_self _ _) ?_
  refine step_send m K R c 2 3 _ rfl (cond_ne c 2) rfl (fun _ => rfl) (fun _ => slot_dyn rsM 3 c _ rfl _ _ _)
    (sem_rs_send 3 2 _ rfl _ _) (fun _ => sem_rs_recv 3 c _ (sem_off 3 c _ rfl) _ _) ?_
  refine step_x m K R c 3 3 ?_
  exact ret c hk

end Cert.MoeProof

end
-- ==== Proof.PartC.lean ====
/-
# Part of the body

The printed body's parts, block by block.
-/
module

public import proofs.«01_k».proof.Proof.PartBase

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)
set_option maxHeartbeats 4000000

/-- The last block of the reduce phase; the landings of quarter 0 and the first copies of its sum. -/
theorem part8 (R : sProp 𝕄) (c : Dev nD) {Qa : (Σ' (_ : BitVec 32), BitVec 32) → sProp 𝕄}
    (hk : St m K R c 16 16 4 1 2 False 0 0 ⊢ Qa ⟨(Scalar.extui (Scalar.cmpi .ne (vdev c) 2#32)), 0#32⟩) :
    St m K R c 15 15 0 0 0 False 0 0 ⊢ WP c (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9
      c (vdev c) (part m c 3 3) (Scalar.extui (Scalar.cmpi .eq (vdev c) 3#32))) Qa := by
  rw [k0_part8_eq_skeleton]; unfold k0_part8_skel
  refine step_red m K R c 3 3 _ rfl (cond_eq c 3) (shapeCast_self _ _) ?_
  refine step_send m K R c 3 3 _ rfl (cond_ne c 3) rfl (fun _ => rfl) (fun _ => slot_dyn rsM 3 c _ rfl _ _ _)
    (sem_rs_send 3 3 _ rfl _ _) (fun _ => sem_rs_recv 3 c _ (sem_off 3 c _ rfl) _ _) ?_
  refine step_B m K R c 0 0 _ rfl (cond_ne c 0) (fun _ _ => shapeCast_self _ _) (sem_rs_recv 0 0 _ rfl _ _) ?_
  refine step_B m K R c 1 0 _ rfl (cond_ne c 1) (fun _ _ => shapeCast_self _ _) (sem_rs_recv 0 1 _ rfl _ _) ?_
  refine step_B m K R c 2 0 _ rfl (cond_ne c 2) (fun _ _ => shapeCast_self _ _) (sem_rs_recv 0 2 _ rfl _ _) ?_
  refine step_B m K R c 3 0 _ rfl (cond_ne c 3) (fun _ _ => shapeCast_self _ _) (sem_rs_recv 0 3 _ rfl _ _) ?_
  refine step_G m K R c 0 4 0 (by decide) (by decide) (fun _ => rfl) ?_
  refine step_C m K R c 0 0 _ rfl (by decide) (cond_ne c 0) (fun _ => rfl) (fun _ => slot_dyn abM 0 c _ rfl _ _ _)
    (sem_ag_send 0 0 _ rfl _ _) (fun _ => sem_ag_recv 0 c _ (sem_off 0 c _ rfl) _ _) ?_
  refine step_C m K R c 1 0 _ rfl (by decide) (cond_ne c 1) (fun _ => rfl) (fun _ => slot_dyn abM 0 c _ rfl _ _ _)
    (sem_ag_send 0 1 _ rfl _ _) (fun _ => sem_ag_recv 0 c _ (sem_off 0 c _ rfl) _ _) ?_
  exact ret c hk

/-- The landings of quarter 1. -/
theorem part9 (R : sProp 𝕄) (c : Dev nD) (u v : BitVec 32) {Qa : PUnit → sProp 𝕄}
    (hk : St m K R c 16 16 8 2 6 False 0 0 ⊢ Qa ⟨⟩) :
    St m K R c 16 16 4 1 2 False 0 0 ⊢ WP c (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9
      c (vdev c) u v) Qa := by
  rw [k0_part9_eq_skeleton]; unfold k0_part9_skel
  refine step_C m K R c 2 0 _ rfl (by decide) (cond_ne c 2) (fun _ => rfl) (fun _ => slot_dyn abM 0 c _ rfl _ _ _)
    (sem_ag_send 0 2 _ rfl _ _) (fun _ => sem_ag_recv 0 c _ (sem_off 0 c _ rfl) _ _) ?_
  refine step_C m K R c 3 0 _ rfl (by decide) (cond_ne c 3) (fun _ => rfl) (fun _ => slot_dyn abM 0 c _ rfl _ _ _)
    (sem_ag_send 0 3 _ rfl _ _) (fun _ => sem_ag_recv 0 c _ (sem_off 0 c _ rfl) _ _) ?_
  refine step_B m K R c 0 1 _ rfl (cond_ne c 0) (fun _ _ => shapeCast_self _ _) (sem_rs_recv 1 0 _ rfl _ _) ?_
  refine step_B m K R c 1 1 _ rfl (cond_ne c 1) (fun _ _ => shapeCast_self _ _) (sem_rs_recv 1 1 _ rfl _ _) ?_
  refine step_B m K R c 2 1 _ rfl (cond_ne c 2) (fun _ _ => shapeCast_self _ _) (sem_rs_recv 1 2 _ rfl _ _) ?_
  refine step_B m K R c 3 1 _ rfl (cond_ne c 3) (fun _ _ => shapeCast_self _ _) (sem_rs_recv 1 3 _ rfl _ _) ?_
  refine step_G m K R c 1 8 4 (by decide) (by decide) (fun _ => rfl) ?_
  refine step_C m K R c 0 1 _ rfl (by decide) (cond_ne c 0) (fun _ => rfl) (fun _ => slot_dyn abM 1 c _ rfl _ _ _)
    (sem_ag_send 1 0 _ rfl _ _) (fun _ => sem_ag_recv 1 c _ (sem_off 1 c _ rfl) _ _) ?_
  refine step_C m K R c 1 1 _ rfl (by decide) (cond_ne c 1) (fun _ => rfl) (fun _ => slot_dyn abM 1 c _ rfl _ _ _)
    (sem_ag_send 1 1 _ rfl _ _) (fun _ => sem_ag_recv 1 c _ (sem_off 1 c _ rfl) _ _) ?_
  exact ret c hk

end Cert.MoeProof

end
-- ==== Proof.PartD.lean ====
/-
# Part of the body

The printed body's parts, block by block.
-/
module

public import proofs.«01_k».proof.Proof.PartBase

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)
set_option maxHeartbeats 4000000

/-- The landings of quarter 2. -/
theorem part10 (R : sProp 𝕄) (c : Dev nD) {Qa : PUnit → sProp 𝕄}
    (hk : St m K R c 16 16 12 3 11 False 0 0 ⊢ Qa ⟨⟩) :
    St m K R c 16 16 8 2 6 False 0 0 ⊢ WP c (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9
      c (vdev c)) Qa := by
  rw [k0_part10_eq_skeleton]; unfold k0_part10_skel
  refine step_C m K R c 2 1 _ rfl (by decide) (cond_ne c 2) (fun _ => rfl) (fun _ => slot_dyn abM 1 c _ rfl _ _ _)
    (sem_ag_send 1 2 _ rfl _ _) (fun _ => sem_ag_recv 1 c _ (sem_off 1 c _ rfl) _ _) ?_
  refine step_C m K R c 3 1 _ rfl (by decide) (cond_ne c 3) (fun _ => rfl) (fun _ => slot_dyn abM 1 c _ rfl _ _ _)
    (sem_ag_send 1 3 _ rfl _ _) (fun _ => sem_ag_recv 1 c _ (sem_off 1 c _ rfl) _ _) ?_
  refine step_B m K R c 0 2 _ rfl (cond_ne c 0) (fun _ _ => shapeCast_self _ _) (sem_rs_recv 2 0 _ rfl _ _) ?_
  refine step_B m K R c 1 2 _ rfl (cond_ne c 1) (fun _ _ => shapeCast_self _ _) (sem_rs_recv 2 1 _ rfl _ _) ?_
  refine step_B m K R c 2 2 _ rfl (cond_ne c 2) (fun _ _ => shapeCast_self _ _) (sem_rs_recv 2 2 _ rfl _ _) ?_
  refine step_B m K R c 3 2 _ rfl (cond_ne c 3) (fun _ _ => shapeCast_self _ _) (sem_rs_recv 2 3 _ rfl _ _) ?_
  refine step_G m K R c 2 12 8 (by decide) (by decide) (fun _ => rfl) ?_
  refine step_C m K R c 0 2 _ rfl (by decide) (cond_ne c 0) (fun _ => rfl) (fun _ => slot_dyn abM 2 c _ rfl _ _ _)
    (sem_ag_send 2 0 _ rfl _ _) (fun _ => sem_ag_recv 2 c _ (sem_off 2 c _ rfl) _ _) ?_
  refine step_C m K R c 1 2 _ rfl (by decide) (cond_ne c 1) (fun _ => rfl) (fun _ => slot_dyn abM 2 c _ rfl _ _ _)
    (sem_ag_send 2 1 _ rfl _ _) (fun _ => sem_ag_recv 2 c _ (sem_off 2 c _ rfl) _ _) ?_
  refine step_C m K R c 2 2 _ rfl (by decide) (cond_ne c 2) (fun _ => rfl) (fun _ => slot_dyn abM 2 c _ rfl _ _ _)
    (sem_ag_send 2 2 _ rfl _ _) (fun _ => sem_ag_recv 2 c _ (sem_off 2 c _ rfl) _ _) ?_
  exact ret c hk

/-- The landings of quarter 3. -/
theorem part11 (R : sProp 𝕄) (c : Dev nD) {Qa : (BitVec 32) → sProp 𝕄}
    (hk : St m K R c 16 16 16 4 15 False 0 0 ⊢ Qa 3#32) :
    St m K R c 16 16 12 3 11 False 0 0 ⊢ WP c (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9
      c (vdev c)) Qa := by
  rw [k0_part11_eq_skeleton]; unfold k0_part11_skel
  refine step_C m K R c 3 2 _ rfl (by decide) (cond_ne c 3) (fun _ => rfl) (fun _ => slot_dyn abM 2 c _ rfl _ _ _)
    (sem_ag_send 2 3 _ rfl _ _) (fun _ => sem_ag_recv 2 c _ (sem_off 2 c _ rfl) _ _) ?_
  refine step_B m K R c 0 3 _ rfl (cond_ne c 0) (fun _ _ => shapeCast_self _ _) (sem_rs_recv 3 0 _ rfl _ _) ?_
  refine step_B m K R c 1 3 _ rfl (cond_ne c 1) (fun _ _ => shapeCast_self _ _) (sem_rs_recv 3 1 _ rfl _ _) ?_
  refine step_B m K R c 2 3 _ rfl (cond_ne c 2) (fun _ _ => shapeCast_self _ _) (sem_rs_recv 3 2 _ rfl _ _) ?_
  refine step_B m K R c 3 3 _ rfl (cond_ne c 3) (fun _ _ => shapeCast_self _ _) (sem_rs_recv 3 3 _ rfl _ _) ?_
  refine step_G m K R c 3 16 12 (by decide) (by decide) (fun _ => rfl) ?_
  refine step_C m K R c 0 3 _ rfl (by decide) (cond_ne c 0) (fun _ => rfl) (fun _ => slot_dyn abM 3 c _ rfl _ _ _)
    (sem_ag_send 3 0 _ rfl _ _) (fun _ => sem_ag_recv 3 c _ (sem_off 3 c _ rfl) _ _) ?_
  refine step_C m K R c 1 3 _ rfl (by decide) (cond_ne c 1) (fun _ => rfl) (fun _ => slot_dyn abM 3 c _ rfl _ _ _)
    (sem_ag_send 3 1 _ rfl _ _) (fun _ => sem_ag_recv 3 c _ (sem_off 3 c _ rfl) _ _) ?_
  refine step_C m K R c 2 3 _ rfl (by decide) (cond_ne c 2) (fun _ => rfl) (fun _ => slot_dyn abM 3 c _ rfl _ _ _)
    (sem_ag_send 3 2 _ rfl _ _) (fun _ => sem_ag_recv 3 c _ (sem_off 3 c _ rfl) _ _) ?_
  exact ret c hk

end Cert.MoeProof

end
-- ==== Proof.PartE.lean ====
/-
# Part of the body

The printed body's parts, block by block.
-/
module

public import proofs.«01_k».proof.Proof.PartBase

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)
set_option maxHeartbeats 4000000

/-- The device's own rows, named through the device's number. -/
theorem own_dyn {α : Type} {Qa : α → sProp 𝕄} (R : sProp 𝕄) (c : Dev nD) (off : Fin 2 → ℕ) (ho : off = k0_off65 c) {a g cc f : ℕ}
    {inb : ∀ a, off a + S256x512.size a ≤ S1024x512.size a}
    {hl : redM.view.LoadsAt rRw.toLoadRect} {hl' : outM.view.LoadsAt (Rect.unit (s := S1024x512) off S256x512.size inb).toLoadRect}
    {hx : (outM.access (Rect.unit (s := S1024x512) off S256x512.size inb)).Stores Finset.univ}
    {hm : (Finset.univ : Finset S256x512.Idx) = Finset.univ ∨ ∀ a, (Rect.unit (s := S1024x512) off S256x512.size inb).stride a = 1}
    {kk : Prog (TpuEff nD τ sig (Elt F) Λ₀ .tc) α}
    (hk : St m K R c a 16 16 g cc True 0 f ⊢ WP c kk Qa) :
    St m K R c a 16 16 g cc False 0 f ⊢ WP c (Prog.lift (.load redM rRw.toLoadRect hl) >>= fun v =>
        Prog.lift (.load outM (Rect.unit (s := S1024x512) off S256x512.size inb).toLoadRect hl') >>= fun _ =>
        Prog.lift (.store outM (Rect.unit (s := S1024x512) off S256x512.size inb) v Finset.univ hx hm) >>= fun _ => kk) Qa := by
  have h : off = ![256 * c.val, 0] := by rw [ho]; clear ho hk; revert c; decide
  subst h
  exact step_own m K R c hk

/-- The last copy, the device's own rows, and the first landings of the gather phase. -/
theorem part12 (R : sProp 𝕄) (c : Dev nD) (u : BitVec 32) {Qa : (Σ' (_ : BitVec 32), BitVec 32) → sProp 𝕄}
    (hk : St m K R c 16 16 16 4 16 True 7 0 ⊢ Qa ⟨(Scalar.extui (Scalar.cmpi .ne (vdev c) 3#32)), 0#32⟩) :
    St m K R c 16 16 16 4 15 False 0 0 ⊢ WP c (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9
      c (vdev c) u) Qa := by
  rw [k0_part12_eq_skeleton]; unfold k0_part12_skel
  refine step_C m K R c 3 3 _ rfl (by decide) (cond_ne c 3) (fun _ => rfl) (fun _ => slot_dyn abM 3 c _ rfl _ _ _)
    (sem_ag_send 3 3 _ rfl _ _) (fun _ => sem_ag_recv 3 c _ (sem_off 3 c _ rfl) _ _) ?_
  refine own_dyn m K R c _ rfl ?_
  refine step_E m K R c 0 0 _ rfl (cond_ne c 0) (fun _ => rfl) (sem_ag_recv 0 0 _ rfl _ _) ?_
  refine step_E m K R c 1 0 _ rfl (cond_ne c 1) (fun _ => rfl) (sem_ag_recv 0 1 _ rfl _ _) ?_
  refine step_E m K R c 2 0 _ rfl (cond_ne c 2) (fun _ => rfl) (sem_ag_recv 0 2 _ rfl _ _) ?_
  refine step_E m K R c 3 0 _ rfl (cond_ne c 3) (fun _ => rfl) (sem_ag_recv 0 3 _ rfl _ _) ?_
  refine step_E m K R c 0 1 _ rfl (cond_ne c 0) (fun _ => rfl) (sem_ag_recv 1 0 _ rfl _ _) ?_
  refine step_E m K R c 1 1 _ rfl (cond_ne c 1) (fun _ => rfl) (sem_ag_recv 1 1 _ rfl _ _) ?_
  refine step_E m K R c 2 1 _ rfl (cond_ne c 2) (fun _ => rfl) (sem_ag_recv 1 2 _ rfl _ _) ?_
  exact ret c hk

end Cert.MoeProof

end
-- ==== Proof.PartF.lean ====
/-
# Part of the body

The printed body's parts, block by block.
-/
module

public import proofs.«01_k».proof.Proof.PartBase

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)
set_option maxHeartbeats 4000000

/-- The other landings of the gather phase. -/
theorem part13 (R : sProp 𝕄) (c : Dev nD) {Qa : (Σ' (_ : BitVec 32), BitVec 32) → sProp 𝕄}
    (hk : St m K R c 16 16 16 4 16 True 16 1 ⊢ Qa ⟨(Scalar.extui (Scalar.cmpi .ne (vdev c) 1#32)), 0#32⟩) :
    St m K R c 16 16 16 4 16 True 7 0 ⊢ WP c (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9
      c (vdev c) (Scalar.extui (Scalar.cmpi .ne (vdev c) 3#32)) 0#32) Qa := by
  rw [k0_part13_eq_skeleton]; unfold k0_part13_skel
  refine step_E m K R c 3 1 _ rfl (cond_ne c 3) (fun _ => rfl) (sem_ag_recv 1 3 _ rfl _ _) ?_
  refine step_E m K R c 0 2 _ rfl (cond_ne c 0) (fun _ => rfl) (sem_ag_recv 2 0 _ rfl _ _) ?_
  refine step_E m K R c 1 2 _ rfl (cond_ne c 1) (fun _ => rfl) (sem_ag_recv 2 1 _ rfl _ _) ?_
  refine step_E m K R c 2 2 _ rfl (cond_ne c 2) (fun _ => rfl) (sem_ag_recv 2 2 _ rfl _ _) ?_
  refine step_E m K R c 3 2 _ rfl (cond_ne c 3) (fun _ => rfl) (sem_ag_recv 2 3 _ rfl _ _) ?_
  refine step_E m K R c 0 3 _ rfl (cond_ne c 0) (fun _ => rfl) (sem_ag_recv 3 0 _ rfl _ _) ?_
  refine step_E m K R c 1 3 _ rfl (cond_ne c 1) (fun _ => rfl) (sem_ag_recv 3 1 _ rfl _ _) ?_
  refine step_E m K R c 2 3 _ rfl (cond_ne c 2) (fun _ => rfl) (sem_ag_recv 3 2 _ rfl _ _) ?_
  refine step_E m K R c 3 3 _ rfl (cond_ne c 3) (fun _ => rfl) (sem_ag_recv 3 3 _ rfl _ _) ?_
  refine step_F m K R c 0 0 _ rfl (cond_ne c 0) (sem_rs_send 0 0 _ rfl _ _) (sem_ag_send 0 0 _ rfl _ _) ?_
  exact ret c hk

end Cert.MoeProof

end
-- ==== Proof.PartG.lean ====
/-
# Part of the body

The printed body's parts, block by block.
-/
module

public import proofs.«01_k».proof.Proof.PartBase

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)
set_option maxHeartbeats 4000000

/-- The closing waits. -/
theorem part14 (R : sProp 𝕄) (c : Dev nD) (u v : BitVec 32) {Qa : (Σ' (_ : BitVec 32), BitVec 32) → sProp 𝕄}
    (hk : St m K R c 16 16 16 4 16 True 16 11 ⊢ Qa ⟨(Scalar.extui (Scalar.cmpi .ne (vdev c) 3#32)), 0#32⟩) :
    St m K R c 16 16 16 4 16 True 16 1 ⊢ WP c (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9
      c (vdev c) u v) Qa := by
  rw [k0_part14_eq_skeleton]; unfold k0_part14_skel
  refine step_F m K R c 1 0 _ rfl (cond_ne c 1) (sem_rs_send 0 1 _ rfl _ _) (sem_ag_send 0 1 _ rfl _ _) ?_
  refine step_F m K R c 2 0 _ rfl (cond_ne c 2) (sem_rs_send 0 2 _ rfl _ _) (sem_ag_send 0 2 _ rfl _ _) ?_
  refine step_F m K R c 3 0 _ rfl (cond_ne c 3) (sem_rs_send 0 3 _ rfl _ _) (sem_ag_send 0 3 _ rfl _ _) ?_
  refine step_F m K R c 0 1 _ rfl (cond_ne c 0) (sem_rs_send 1 0 _ rfl _ _) (sem_ag_send 1 0 _ rfl _ _) ?_
  refine step_F m K R c 1 1 _ rfl (cond_ne c 1) (sem_rs_send 1 1 _ rfl _ _) (sem_ag_send 1 1 _ rfl _ _) ?_
  refine step_F m K R c 2 1 _ rfl (cond_ne c 2) (sem_rs_send 1 2 _ rfl _ _) (sem_ag_send 1 2 _ rfl _ _) ?_
  refine step_F m K R c 3 1 _ rfl (cond_ne c 3) (sem_rs_send 1 3 _ rfl _ _) (sem_ag_send 1 3 _ rfl _ _) ?_
  refine step_F m K R c 0 2 _ rfl (cond_ne c 0) (sem_rs_send 2 0 _ rfl _ _) (sem_ag_send 2 0 _ rfl _ _) ?_
  refine step_F m K R c 1 2 _ rfl (cond_ne c 1) (sem_rs_send 2 1 _ rfl _ _) (sem_ag_send 2 1 _ rfl _ _) ?_
  refine step_F m K R c 2 2 _ rfl (cond_ne c 2) (sem_rs_send 2 2 _ rfl _ _) (sem_ag_send 2 2 _ rfl _ _) ?_
  exact ret c hk

end Cert.MoeProof

end
-- ==== Proof.Body.lean ====
/-
# The body

The parts of the body, one after the other.
-/
module

public import proofs.«01_k».proof.Proof.PartH
public import proofs.«01_k».proof.Proof.PartA
public import proofs.«01_k».proof.Proof.PartB
public import proofs.«01_k».proof.Proof.PartC
public import proofs.«01_k».proof.Proof.PartD
public import proofs.«01_k».proof.Proof.PartE
public import proofs.«01_k».proof.Proof.PartF
public import proofs.«01_k».proof.Proof.PartG

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)
set_option maxHeartbeats 4000000

/-- A run of one part, then the rest. -/
theorem part_then {α β : Type} {P P' : sProp 𝕄} {Q : β → sProp 𝕄} (c : Dev nD) {p : Prog (TpuEff nD τ sig (Elt F) Λ₀ .tc) α} {v : α}
    {k : α → Prog (TpuEff nD τ sig (Elt F) Λ₀ .tc) β}
    (hp : ∀ {Qa : α → sProp 𝕄}, (P' ⊢ Qa v) → P ⊢ WP c p Qa) (hk : P' ⊢ WP c (k v) Q) : P ⊢ WP c (p >>= k) Q := by
  have h := hp (Qa := fun a => WP c (k a) Q) hk
  show P ⊢ wp _ _ _ (p >>= k) Q
  rw [wp_bind]; exact h

/-- The whole body, from the first signal to the last wait. -/
theorem body_run (c : Dev nD) {Q : PUnit → sProp 𝕄} (hk : St m K (Car m c) c 16 16 16 4 16 True 16 16 ⊢ Q ⟨⟩) :
    Pre m K c ⊢ WP c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9) Q := by
  rw [cc0_body_eq_skeleton]; unfold cc0_body_skel
  refine part_then c (part1 m K c) ?_
  refine part_then c (part2 m K c) ?_
  refine part_then c (part3 m K c) ?_
  refine part_then c (part4 m K _ c) ?_
  refine part_then c (part5 m K _ c _ _) ?_
  refine part_then c (part6 m K _ c) ?_
  refine part_then c (part7 m K _ c) ?_
  refine part_then c (part8 m K _ c) ?_
  refine part_then c (part9 m K _ c _ _) ?_
  refine part_then c (part10 m K _ c) ?_
  refine part_then c (part11 m K _ c) ?_
  refine part_then c (part12 m K _ c _) ?_
  refine part_then c (part13 m K _ c) ?_
  refine part_then c (part14 m K _ c _ _) ?_
  refine step_F m K _ c 3 2 _ rfl (cond_ne c 3) (sem_rs_send 2 3 _ rfl _ _) (sem_ag_send 2 3 _ rfl _ _) ?_
  refine step_F m K _ c 0 3 _ rfl (cond_ne c 0) (sem_rs_send 3 0 _ rfl _ _) (sem_ag_send 3 0 _ rfl _ _) ?_
  refine step_F m K _ c 1 3 _ rfl (cond_ne c 1) (sem_rs_send 3 1 _ rfl _ _) (sem_ag_send 3 1 _ rfl _ _) ?_
  refine step_F m K _ c 2 3 _ rfl (cond_ne c 2) (sem_rs_send 3 2 _ rfl _ _) (sem_ag_send 3 2 _ rfl _ _) ?_
  refine step_F m K _ c 3 3 _ rfl (cond_ne c 3) (sem_rs_send 3 3 _ rfl _ _) (sem_ag_send 3 3 _ rfl _ _) ?_
  exact ret c hk

end Cert.MoeProof

end
-- ==== Proof.Exit.lean ====
/-
# The end of the body

Every cell is closed and every buffer is whole again; the result buffer holds the sums.
-/
module

public import proofs.«01_k».proof.Proof.Start

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

/-! ## The stored result -/

/-- The device whose rows row `i` is among, the quarter of these, and the place in the quarter. -/
def kI (i : S1024x512.Idx) : Fin 4 := ⟨(i 0).val / 256, by have h : (i 0).val < 1024 := (i 0).isLt; omega⟩
def hI (i : S1024x512.Idx) : Fin 4 := ⟨(i 0).val % 256 / 64, by omega⟩
def jI (i : S1024x512.Idx) : S64x512.Idx := fun a => match a with
  | ⟨0, _⟩ => ⟨(i 0).val % 64, Nat.mod_lt _ (by decide)⟩
  | ⟨1, _⟩ => ⟨(i 1).val, (i 1).isLt⟩

/-- The whole result of device `c`. -/
def outF (c : Dev nD) : Vec F S1024x512 .f32 := fun i => outQ m c (kI i) (hI i) (jI i)

theorem emb_jI (i : S1024x512.Idx) : (rO (kI i) (hI i)).emb (jI i) = i := by
  have h0 : (i 0).val < 1024 := (i 0).isLt
  funext a
  match a with
  | ⟨0, _⟩ =>
    refine Fin.ext ?_
    show 256 * ((i 0).val / 256) + 64 * ((i 0).val % 256 / 64) + 1 * ((i 0).val % 64) = (i 0).val
    omega
  | ⟨1, _⟩ =>
    refine Fin.ext ?_
    show 0 + 1 * (i 1).val = (i 1).val
    omega

/-- A buffer whose sixteen blocks hold the sums is the result. -/
theorem eq_outF (c : Dev nD) (f : Buf (Elt F) ((c : Thread nD τ).loc cc0_stg5_0))
    (h : ∀ k h : Fin 4, (outM.access (rO k h)).read (Elt F) f = outQ m c k h) : f = (show Buf (Elt F) ((c : Thread nD τ).loc cc0_stg5_0) from outF m c) := by
  funext i
  have e := congrFun (h (kI i) (hI i)) (jI i)
  have e2 : (outM.access (rO (kI i) (hI i))).read (Elt F) f (jI i) = f ((rO (kI i) (hI i)).emb (jI i)) := rfl
  rw [e2, emb_jI] at e
  exact e

/-! ## Closing the cells -/

theorem close_d (c : Dev nD) (a h k : Fin 4) (R : ℕ) (hR : k = c ∨ 1 ≤ R) :
    iprop(records m K ∗ posAt c a h k R) ⊢ |={Set.univ}=> semVal (dCell c a h k) 0 := by
  refine (sep_mono_left (inv_d m K c a h k)).trans (Rounds.cell_close ER (Rd m) (Set.mem_univ _) (fun h => h) (R := R) fun r hr => ?_)
  rcases hR with rfl | hR
  · exact duties_diag m k a h r (Nat.zero_le r)
  · exact duties_later m _ r (le_trans hR hr)

theorem close_bar (c : Dev nD) : iprop(records m K ∗ atPos ER (barCell c) 1 ∅ 0) ⊢ |={Set.univ}=> semVal (barCell c) 0 :=
  (sep_mono_left (inv_bar m K c)).trans (Rounds.cell_close ER (Rd m) (Set.mem_univ _) (fun h => h) (R := 1) (duties_later m _))

/-- A claim about each member next to a persistent fact is one about the family. -/
theorem fam_mono {I : Type} [DecidableEq I] {s : Finset I} {R : sProp 𝕄} [BI.Persistent R] {Φ Ψ : I → sProp 𝕄}
    (h : ∀ i, iprop(R ∗ Φ i) ⊢ Ψ i) : iprop(R ∗ bigSep s Φ) ⊢ bigSep s Ψ := by
  refine (sep_mono_left (BI.bigSep_of_persistent s R)).trans ?_
  rw [← bigSep_sep']
  exact bigSep_mono fun i _ => h i

/-- The cells of one array close together; what else a pair holds remains. -/
theorem close_fam (c : Dev nD) (a : Fin 4) (Φ Ψ : Fin 4 × Fin 4 → sProp 𝕄)
    (h : ∀ i : Fin 4 × Fin 4, Φ i ⊢ iprop(posAt c a i.1 i.2 (if i.2 = c then 0 else 1) ∗ Ψ i)) :
    iprop(records m K ∗ bigSep Finset.univ Φ) ⊢ |={Set.univ}=> iprop((bigSep Finset.univ fun i : Fin 4 × Fin 4 => semVal (dCell c a i.1 i.2) 0) ∗ bigSep Finset.univ Ψ) := by
  rw [← bigSep_sep']
  refine (fam_mono (Ψ := fun i : Fin 4 × Fin 4 => iprop(|={Set.univ}=> (semVal (dCell c a i.1 i.2) 0 ∗ Ψ i))) fun i => ?_).trans (bigSep_fupd _ _)
  iintro ⟨Hr, H⟩
  ihave H := (h i) $$ H
  icases H with ⟨Hp, H⟩
  imod (close_d m K c a i.1 i.2 (if i.2 = c then 0 else 1) (by by_cases e : i.2 = c; · exact Or.inl e
                                                               · rw [if_neg e]; exact Or.inr le_rfl)) $$ [Hr Hp] with Hv
  · isplitl [Hr] <;> iassumption
  imodintro
  isplitl [Hv] <;> iassumption

theorem pos_lt (i : Fin 4 × Fin 4) : pos i < 16 := by
  have h1 := i.1.isLt; have h2 := i.2.isLt; unfold pos; omega

theorem end_A (c : Dev nD) (i : Fin 4 × Fin 4) : fA (F := F) c 16 16 i ⊢ iprop(posAt c 0 i.1 i.2 (if i.2 = c then 0 else 1) ∗ slotAny c sbM i.1 i.2) := by
  unfold fA; by_cases h : i.2 = c
  · rw [if_pos h, if_pos h]
  · rw [if_neg h, if_neg h, if_pos (pos_lt i)]
theorem end_B (c : Dev nD) (i : Fin 4 × Fin 4) : fB (F := F) c 16 i ⊢ iprop(posAt c 1 i.1 i.2 (if i.2 = c then 0 else 1) ∗ slotAny c rsM i.1 i.2) := by
  unfold fB; by_cases h : i.2 = c
  · rw [if_pos h, if_pos h]
  · rw [if_neg h, if_neg h, if_pos (pos_lt i)]
theorem end_C (c : Dev nD) (i : Fin 4 × Fin 4) : fC (F := F) c 16 16 i ⊢ iprop(posAt c 2 i.1 i.2 (if i.2 = c then 0 else 1) ∗ emp) := by
  have e : fC (F := F) c 16 16 i = posAt c 2 i.1 i.2 (if i.2 = c then 0 else 1) := by
    unfold fC; by_cases h : i.2 = c
    · rw [if_pos h, if_pos h]
    · rw [if_neg h, if_neg h, if_pos (pos_lt i)]
  rw [e]
  iintro H; isplitl [H]; · iexact H
  iempintro
theorem end_E (c : Dev nD) (i : Fin 4 × Fin 4) : fE (F := F) c 16 i ⊢ iprop(posAt c 3 i.1 i.2 (if i.2 = c then 0 else 1) ∗ slotAny c abM i.1 i.2) := by
  unfold fE; by_cases h : i.2 = c
  · rw [if_pos h, if_pos h]
  · rw [if_neg h, if_neg h, if_pos (pos_lt i)]
theorem end_S (c : Dev nD) (h : Fin 4) : fS m c 4 16 16 h ⊢ iprop(∃ X, owns (c : Thread nD τ) (slot3 h) fullShare X) := by
  unfold fS; rw [if_pos h.isLt]
  refine BIBase.Entails.trans (Entails.of_eq (bigSep_congr (Ψ := fun k : Fin 4 => owns (c : Thread nD τ) (slot3 h) (qsh k) (redB m c h)) fun k _ => ?_)) ?_
  · unfold fS1; exact if_neg fun e => e.2.2 (pos_lt (h, k))
  · refine (shares4_back c h (redB m c h)).trans ?_
    iintro H; iexists _; iexact H

theorem end_Ss (c : Dev nD) : bigSep Finset.univ (fS m c 4 16 16) ⊢ (bigSep Finset.univ fun h : Fin 4 => iprop(∃ X, owns (c : Thread nD τ) (slot3 h) fullShare X) : sProp 𝕄) :=
  bigSep_mono fun h _ => end_S m c h

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A device's semaphores at zero. -/
def zeros (c : Dev nD) : sProp 𝕄 :=
  iprop(semVal (barCell c) 0 ∗ bigSep Finset.univ fun i : Fin 4 × Fin 4 × Fin 4 => semVal (dCell c i.1 i.2.1 i.2.2) 0)

theorem zeros_intro (c : Dev nD) :
    iprop(semVal (barCell c) 0 ∗ (bigSep Finset.univ fun i : Fin 4 × Fin 4 => semVal (dCell c 0 i.1 i.2) 0)
      ∗ (bigSep Finset.univ fun i : Fin 4 × Fin 4 => semVal (dCell c 1 i.1 i.2) 0) ∗ (bigSep Finset.univ fun i : Fin 4 × Fin 4 => semVal (dCell c 2 i.1 i.2) 0)
      ∗ (bigSep Finset.univ fun i : Fin 4 × Fin 4 => semVal (dCell c 3 i.1 i.2) 0)) ⊢ (zeros c : sProp 𝕄) := by
  have e : (bigSep Finset.univ fun i : Fin 4 × Fin 4 × Fin 4 => (semVal (dCell c i.1 i.2.1 i.2.2) 0 : sProp 𝕄)) = _ :=
    (bigSep_univ_prod _).trans (bigSep_fin4 (F := F) _)
  unfold zeros
  rw [e]

/-- What a device ends with. -/
def Done (c : Dev nD) : sProp 𝕄 :=
  iprop(zeros (F := F) c ∗ scrSt c ∗ inSt m c
    ∗ (((c : Thread nD τ).loc cc0_stg5_0) ↦{fullShare} (show Buf (Elt F) ((c : Thread nD τ).loc cc0_stg5_0) from outF m c))
    ∗ ∃ W, owes (c : Thread nD τ) 0 W)

set_option maxHeartbeats 1000000 in
/-- The end of the body: every cell closed, every buffer whole. -/
theorem exit (c : Dev nD) : St m K (Car m c) c 16 16 16 4 16 True 16 16 ⊢ |={Set.univ}=> Done m c := by
  unfold St Car xsSt redSt outSt owesSt
  iintro ⟨⟨#Hrec, -⟩, H0, HA, ⟨%f2, -, H2⟩, HB, HC, HS, ⟨%fo, %ho, Ho⟩, HE, ⟨%W, HO⟩, Hin, Hb, Hr1, Hr4, Hr5, Hr3⟩
  imod (close_fam m K c 0 _ _ (end_A c)) $$ [HA] with ⟨V0, H1⟩
  · isplitr; · iexact Hrec
    iexact HA
  imod (close_fam m K c 1 _ _ (end_B c)) $$ [HB] with ⟨V1, H4⟩
  · isplitr; · iexact Hrec
    iexact HB
  imod (close_fam m K c 2 _ _ (end_C c)) $$ [HC] with ⟨V2, -⟩
  · isplitr; · iexact Hrec
    iexact HC
  imod (close_fam m K c 3 _ _ (end_E c)) $$ [HE] with ⟨V3, H5⟩
  · isplitr; · iexact Hrec
    iexact HE
  imod (close_bar m K c) $$ [Hb] with Vb
  · isplitr; · iexact Hrec
    iexact Hb
  imodintro
  unfold Done scrSt
  have eo := eq_outF m c fo fun k h => ho k h (by split; · trivial
                                                  · exact pos_lt (h, k))
  subst eo
  rw [OD_end, OD_end, add_zero]
  isplitl [Vb V0 V1 V2 V3]
  · iapply (zeros_intro (F := F) c)
    isplitl [Vb]; · iexact Vb
    isplitl [V0]; · iexact V0
    isplitl [V1]; · iexact V1
    isplitl [V2]; · iexact V2
    iexact V3
  isplitl [H0 H1 H2 HS H4 H5 Hr1 Hr4 Hr5 Hr3]
  · isplitl [H0]; · iexists _; iexact H0
    isplitl [H1 Hr1]
    · iapply (join4 (F := F) c sbM (m _)); isplitl [H1] <;> iassumption
    isplitl [H2]; · iexists _; iexact H2
    isplitl [HS Hr3]
    · iapply (join3 (F := F) c (m _)); isplitl [HS]
      · iapply (end_Ss m c); iexact HS
      · iexact Hr3
    isplitl [H4 Hr4]
    · iapply (join4 (F := F) c rsM (m _)); isplitl [H4] <;> iassumption
    iapply (join4 (F := F) c abM (m _)); isplitl [H5] <;> iassumption
  isplitl [Hin]; · iexact Hin
  isplitl [Ho]; · iexact Ho
  iexists W; iexact HO

end Cert.MoeProof

end
-- ==== Proof.Region.lean ====
/-
# The kernel as a region

What the launch hands a device, and that the body keeps the pipeline's promises.
-/
module

public import proofs.«01_k».proof.Proof.Body
public import proofs.«01_k».proof.Proof.Exit

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

/-! ## The proof data -/

/-- The positions of the four cells of a pair, and the tokens of the transfers it pays for. -/
def tokP (c : Dev nD) (i : Fin 4 × Fin 4) : sProp 𝕄 :=
  iprop(dutyTok ER (dCell c 0 i.1 i.2) 0 0 ∗ dutyTok ER (dCell i.2 1 i.1 c) 0 0 ∗ dutyTok ER (dCell c 2 i.1 i.2) 0 0 ∗ dutyTok ER (dCell i.2 3 i.1 c) 0 0)
def posP (c : Dev nD) (i : Fin 4 × Fin 4) : sProp 𝕄 :=
  iprop(posAt c 0 i.1 i.2 0 ∗ posAt c 1 i.1 i.2 0 ∗ posAt c 2 i.1 i.2 0 ∗ posAt c 3 i.1 i.2 0)
/-- The credits of a pair's two landings. -/
def credP (c : Dev nD) (i : Fin 4 × Fin 4) : sProp 𝕄 :=
  if i.2 = c then iprop(emp) else iprop(cred (tallyAt (dCell c 1 i.1 i.2) () N) ∗ cred (tallyAt (dCell c 3 i.1 i.2) () N))

theorem ghost_eq (c : Dev nD) (i : Fin 4 × Fin 4) : ghost (F := F) c i = iprop(posP c i ∗ tokP c i ∗ credP c i) := rfl

/-- What a device has of the protocol apart from the records. -/
def linear (c : Dev nD) : sProp 𝕄 :=
  iprop(atPos ER (barCell c) 0 ∅ 0 ∗ bigSep Finset.univ (posP (F := F) c) ∗ (bigSep Finset.univ fun d : Dev nD => dutyTok ER (barCell d) 0 c)
    ∗ bigSep Finset.univ (tokP (F := F) c))
def G' (c : Dev nD) : sProp 𝕄 := iprop(∃ K, records m K ∗ linear (F := F) c)
/-- What a device enters the kernel with. -/
def start (c : Dev nD) : sProp 𝕄 :=
  iprop(levAts L lv ∗ cred (tallyAt (barCell c) () 3) ∗ bigSep Finset.univ (credP (F := F) c) ∗ G' m c)

def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outF m c
  Φ t := match t with
    | ⟨0, _⟩ => iprop(start m c ∗ scrSt c)
    | ⟨_ + 1, _⟩ => iprop(zeros (F := F) c ∗ scrSt c)
  q _ := fullShare
  owed t := match t with
    | ⟨0, _⟩ => O₀ c
    | ⟨_ + 1, _⟩ => 0

/-- The inputs' staging buffers hold their blocks. -/
theorem before_in (c : Dev nD) :
    ((∀ d, (dats m 0 c).before (0 : Fin 6) t0_0 d = in0 m c) ∧ (∀ d, (dats m 0 c).before (1 : Fin 6) t0_0 d = in1 m c) ∧ (∀ d, (dats m 0 c).before (2 : Fin 6) t0_0 d = in2 m c))
      ∧ (∀ d, (dats m 0 c).before (3 : Fin 6) t0_0 d = in3 m c) ∧ ∀ d, (dats m 0 c).before (4 : Fin 6) t0_0 d = in4 m c := by
  refine ⟨⟨fun d => ?_, fun d => ?_, fun d => ?_⟩, fun d => ?_, fun d => ?_⟩ <;>
    exact ((dats m 0 c).before_in_eq_fetched _ rfl (fun _ => rfl) (fun _ _ _ => rfl) (fun _ => rfl) t0_0 d).trans rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-! ## The body obligation -/

/-- A staging buffer of the pipeline's at its contents. -/
def stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))
theorem stg_elim (c : Dev nD) (b : Ref sig .tc) (X : b.ty.Contents (Elt F)) :
    stg c b X ⊢ (((c : Thread nD τ).loc b) ↦{fullShare} (show Buf (Elt F) ((c : Thread nD τ).loc b) from X) : sProp 𝕄) := by
  unfold stg; iintro ⟨%f, %e, H⟩; subst e; iexact H
theorem stg_intro (c : Dev nD) (b : Ref sig .tc) (X : b.ty.Contents (Elt F)) :
    (((c : Thread nD τ).loc b) ↦{fullShare} (show Buf (Elt F) ((c : Thread nD τ).loc b) from X) : sProp 𝕄) ⊢ stg c b X := by
  unfold stg; iintro H; iexists _; isplitr [H]; swap; · iexact H
  ipureintro; rfl

def bodyPre (c : Dev nD) : sProp 𝕄 :=
  iprop((start m c ∗ scrSt c) ∗ (dats m 0 c).owesAt () t0_0.castSucc
    ∗ (∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))
    ∗ (∃ d, stg c cc0_stg5_0 ((dats m 0 c).before (5 : Fin 6) t0_0 d)))
def bodyPost (c : Dev nD) : sProp 𝕄 :=
  iprop((zeros (F := F) c ∗ scrSt c) ∗ (dats m 0 c).owesAt () t0_0.succ
    ∗ stg c cc0_stg0_0 (in0 m c) ∗ stg c cc0_stg1_0 (in1 m c) ∗ stg c cc0_stg2_0 (in2 m c) ∗ stg c cc0_stg3_0 (in3 m c) ∗ stg c cc0_stg4_0 (in4 m c)
    ∗ stg c cc0_stg5_0 (outF m c))

theorem pre_intro (c : Dev nD) : bodyPre m c ⊢ iprop(∃ K, Pre m K c) := by
  unfold bodyPre start G' linear Pre
  iintro ⟨⟨⟨#Hlev, Hcb, Hcp, ⟨%K, #Hrec, Hb, Hpos, Htb, Htok⟩⟩, Hscr⟩, Ho, ⟨%d0, H0⟩, ⟨%d1, H1⟩, ⟨%d2, H2⟩, ⟨%d3, H3⟩, ⟨%d4, H4⟩, ⟨%d5, H5⟩⟩
  iexists K
  obtain ⟨⟨e0, e1, e2⟩, e3, e4⟩ := before_in m c
  rw [e0, e1, e2, e3, e4]
  unfold Dat.owesAt Pipeline.owesWithin
  icases Ho with ⟨%W, -, HO⟩
  isplitr
  · isplitr; · iexact Hrec
    iexact Hlev
  isplitl [H0 H1 H2 H3 H4]
  · unfold inSt
    isplitl [H0]; · iapply (stg_elim (F := F) c cc0_stg0_0 _); iexact H0
    isplitl [H1]; · iapply (stg_elim (F := F) c cc0_stg1_0 _); iexact H1
    isplitl [H2]; · iapply (stg_elim (F := F) c cc0_stg2_0 _); iexact H2
    isplitl [H3]; · iapply (stg_elim (F := F) c cc0_stg3_0 _); iexact H3
    iapply (stg_elim (F := F) c cc0_stg4_0 _); iexact H4
  isplitl [Hscr]; · iexact Hscr
  isplitl [H5]; · iexists _; iapply (stg_elim (F := F) c cc0_stg5_0 _); iexact H5
  isplitl [Hpos Htok Hcp]
  · rw [bigSep_congr (s := Finset.univ) (Φ := ghost (F := F) c) fun i _ => ghost_eq c i, bigSep_sep', bigSep_sep']
    isplitl [Hpos]; · iexact Hpos
    isplitl [Htok] <;> iassumption
  isplitl [Hb Hcb]; · isplitl [Hb] <;> iassumption
  isplitl [Htb]; · iexact Htb
  iexists W; iexact HO

theorem post_intro (c : Dev nD) : Done m c ⊢ bodyPost m c := by
  unfold Done bodyPost inSt
  iintro ⟨Hz, Hscr, ⟨H0, H1, H2, H3, H4⟩, H5, ⟨%W, HO⟩⟩
  isplitl [Hz Hscr]; · isplitl [Hz] <;> iassumption
  isplitl [HO]
  · unfold Dat.owesAt Pipeline.owesWithin
    iexists W
    isplitr [HO]; swap; · iexact HO
    ipureintro; exact fun _ _ => Or.inl trivial
  isplitl [H0]; · iapply (stg_intro (F := F) c cc0_stg0_0 _); iexact H0
  isplitl [H1]; · iapply (stg_intro (F := F) c cc0_stg1_0 _); iexact H1
  isplitl [H2]; · iapply (stg_intro (F := F) c cc0_stg2_0 _); iexact H2
  isplitl [H3]; · iapply (stg_intro (F := F) c cc0_stg3_0 _); iexact H3
  isplitl [H4]; · iapply (stg_intro (F := F) c cc0_stg4_0 _); iexact H4
  iapply (stg_intro (F := F) c cc0_stg5_0 _); iexact H5

theorem sound_body (c : Dev nD) : bodyPre m c ⊢ WP c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9) fun _ => bodyPost m c := by
  refine (pre_intro m c).trans ?_
  iintro ⟨%K, H⟩
  iapply (wp_fupd _ _ _ _)
  iapply (body_run m K c (Q := fun _ => iprop(|={Set.univ}=> bodyPost m c)) ((exit m K c).trans (BI.fupd_mono (post_intro m c)))) $$ H

set_option maxRecDepth 4000 in
theorem body_obligation (c : Dev nD) : BodyObligation (dats (F := F) m 0 c) (defs₀ (F := F)) 𝒱₀ () Set.univ := fun t => by
  rw [show t = t0_0 from fin_N0 t, bigSep_W0, bigSep_W0]
  simp only [owns_whole_eq]
  show bodyPre m c ⊢ WP c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9) fun _ => bodyPost m c
  exact sound_body m c

end Cert.MoeProof

end
-- ==== Proof.Fund.lean ====
/-
# Funding the exchange

The cells' records, positions and tokens, dealt to the devices.
-/
module

public import proofs.«01_k».proof.Proof.Region

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

/-- Every transfer semaphore of the kernel. -/
abbrev osem : Fin 4 × Fin 4 × Fin 4 → SemLoc sig := fun i => .dma (dq i.1 i.2.1 i.2.2)
theorem ownSemFacts : Pipeline.OwnSemFacts cfg0.spec osem := by decide
theorem share_eq (c : Dev nD) (w : Fin cfg0.W) : (dats m 0 c).share w = fullShare := by unfold Dat.share; split <;> rfl

theorem kcell_injective : Function.Injective kcell := by
  rintro ⟨c, i⟩ ⟨d, j⟩ h
  have h1 : c = d := by
    rcases i with _ | ⟨a, b, e⟩ <;> rcases j with _ | ⟨a', b', e'⟩ <;> exact congrArg (fun g : GSem nD τ sig => g.1.1) h
  subst h1
  have h2 := congrArg (fun g : GSem nD τ sig => g.2) h
  rcases i with _ | ⟨a, b, e⟩ <;> rcases j with _ | ⟨a', b', e'⟩
  · rfl
  · exact absurd h2 (fun h => by cases h)
  · exact absurd h2 (fun h => by cases h)
  · have h3 : dq a b e = dq a' b' e' := SemLoc.dma.inj h2
    rw [show a = a' by rw [← aOf_dq a b e, h3, aOf_dq], show b = b' by rw [← hOf_dq a b e, h3, hOf_dq], show e = e' by rw [← kOf_dq a b e, h3, kOf_dq]]

/-- A family over the cells of a device is its barrier's member next to the transfer semaphores'. -/
theorem bigSep_cells {I : Type} [Fintype I] [DecidableEq I] (Φ : Option I → sProp 𝕄) :
    bigSep Finset.univ Φ = iprop(Φ none ∗ bigSep Finset.univ fun i : I => Φ (some i)) := by
  rw [bigSep_univ_at Φ none]
  have e : Finset.univ.erase (none : Option I) = Finset.univ.map ⟨some, Option.some_injective I⟩ := by
    ext x; cases x <;> simp
  rw [e, bigSep_map]; rfl

/-! ## Funding the exchange -/

def cells : Finset (GSem nD τ sig) := Finset.univ.map ⟨kcell, kcell_injective⟩
/-- A token for each cell and each possible payer. -/
abbrev tokOf (x : (Dev nD × CI) × Fin 4) : GSem nD τ sig × ℕ × Fin 4 := (kcell x.1, 0, x.2)
theorem tokOf_injective : Function.Injective tokOf := by
  rintro ⟨x, d⟩ ⟨y, e⟩ h
  have h1 : kcell x = kcell y := congrArg Prod.fst h
  have h2 : d = e := congrArg (fun p => p.2.2) h
  rw [kcell_injective h1, h2]
def allToks : Finset (GSem nD τ sig × ℕ × Fin 4) := Finset.univ.map ⟨tokOf, tokOf_injective⟩
def u₀ : UU := (initOf (Pipeline.cells cfgs cellOf_inj) (Pipeline.launchToks cfgs cellOf_inj), initOf cells allToks)

/-- A device's own cells' tokens. -/
def toks (c : Dev nD) : sProp 𝕄 := bigSep Finset.univ fun i : CI => bigSep Finset.univ fun d : Fin 4 => dutyTok ER (kcell (c, i)) 0 d
/-- The positions of a device's cells, with the record that each is at round 0. -/
def seats (c : Dev nD) : sProp 𝕄 := bigSep Finset.univ fun i : CI => iprop(atPos ER (kcell (c, i)) 0 ∅ 0 ∗ reached ER (kcell (c, i)) 0)
def G (c : Dev nD) : sProp 𝕄 := iprop((bigSep Finset.univ fun i : CI => roundState ER (Rd m) (kcell (c, i)) 0) ∗ seats (F := F) c ∗ toks (F := F) c)

theorem fund_cells : BI.own (ER (initOf cells allToks)) ⊢ (|==> bigSep Finset.univ (G m) : sProp 𝕄) := by
  have hX (Φ : GSem nD τ sig → sProp 𝕄) : bigSep cells Φ = bigSep Finset.univ fun c : Dev nD => bigSep Finset.univ fun i : CI => Φ (kcell (c, i)) := by
    unfold cells; rw [bigSep_map, bigSep_univ_prod]; rfl
  have hT : bigSep allToks (fun x => (dutyTok ER x.1 x.2.1 x.2.2 : sProp 𝕄)) = bigSep Finset.univ (toks (F := F)) := by
    unfold allToks toks; rw [bigSep_map, bigSep_univ_prod, bigSep_univ_prod]; rfl
  iintro HX
  imod (Rounds.fund ER (Rd m) cells allToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G seats; simp only [bigSep_sep']
  isplitl [Hst]; · iexact Hst
  isplitl [Hat Hr]
  · isplitl [Hat] <;> iassumption
  iexact Htok

/-! ## Opening the cells -/

theorem unscoped_eq (c : Dev nD) : (unscopedSems0 c : sProp 𝕄) = semVal (barCell c) 0 := by
  unfold unscopedSems0; rw [bigSep_eq_bigSepL_of_eq [SemLoc.reg barS] (by decide) (by decide)]; rfl

theorem zeros_eq (c : Dev nD) : (zeros (F := F) c : sProp 𝕄)
    = iprop(unscopedSems0 c ∗ Pipeline.ownSems0 (Ix := Unit) (Name := ℕ) (U := UU) (Lvl := ℕ) (Val := Elt F) (τ := τ) osem c) := by
  rw [unscoped_eq]; rfl

theorem zeros_cells (c : Dev nD) : (zeros (F := F) c : sProp 𝕄) = bigSep Finset.univ fun i : CI => semVal (kcell (c, i)) 0 :=
  (bigSep_cells (F := F) fun i : CI => semVal (kcell (c, i)) 0).symm

theorem core_open (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CI => iprop(∃ κ : ℕ, cellInv ER (Rd m) κ (kcell (c, i)))) ∗ seats (F := F) c ∗ toks (F := F) c) := by
  unfold G
  iintro ⟨Hos, Hus, Hst, Hat, Htok⟩
  ihave Hv := (Entails.of_eq ((zeros_eq (F := F) c).symm.trans (zeros_cells c))) $$ [Hos Hus]
  · isplitl [Hus] <;> iassumption
  imod (show iprop((bigSep Finset.univ fun i : CI => semVal (kcell (c, i)) 0) ∗ bigSep Finset.univ fun i : CI => roundState ER (Rd m) (kcell (c, i)) 0)
      ⊢ (|={Set.univ}=> bigSep Finset.univ fun i : CI => iprop(∃ κ : ℕ, cellInv ER (Rd m) κ (kcell (c, i))) : sProp 𝕄) from by
        rw [← bigSep_sep']
        exact (bigSep_mono fun i _ => (Rounds.body_intro ER (Rd m) (kcell (c, i))).trans inv_alloc).trans (bigSep_fupd _ _)) $$ [Hv Hst] with Hinv
  · isplitl [Hv] <;> iassumption
  imodintro
  isplitl [Hinv]; · iexact Hinv
  isplitl [Hat] <;> iassumption

/-! ## Dealing the tokens to their payers -/

/-- Tokens of the landings go to the devices that send. -/
def swap : Dev nD × (Fin 4 × Fin 4) ≃ Dev nD × (Fin 4 × Fin 4) where
  toFun x := (x.2.2, (x.2.1, x.1))
  invFun x := (x.2.2, (x.2.1, x.1))
  left_inv _ := rfl
  right_inv _ := rfl

theorem swap_fam (Φ : Dev nD → Fin 4 × Fin 4 → sProp 𝕄) :
    (bigSep Finset.univ fun c => bigSep Finset.univ fun i => Φ c i) = bigSep Finset.univ fun c => bigSep Finset.univ fun i : Fin 4 × Fin 4 => Φ i.2 (i.1, c) := by
  have e : bigSep Finset.univ (fun x : Dev nD × (Fin 4 × Fin 4) => Φ x.1 x.2) = bigSep Finset.univ fun x : Dev nD × (Fin 4 × Fin 4) => Φ x.2.2 (x.2.1, x.1) :=
    bigSep_univ_equiv swap _
  rw [bigSep_univ_prod, bigSep_univ_prod] at e
  exact e

/-- Over the cells of a device: the barrier's member, and the four arrays'. -/
theorem cells_split (Φ : CI → sProp 𝕄) : bigSep Finset.univ Φ = iprop(Φ none
    ∗ (bigSep Finset.univ fun i : Fin 4 × Fin 4 => Φ (some (0, i))) ∗ (bigSep Finset.univ fun i : Fin 4 × Fin 4 => Φ (some (1, i)))
    ∗ (bigSep Finset.univ fun i : Fin 4 × Fin 4 => Φ (some (2, i))) ∗ (bigSep Finset.univ fun i : Fin 4 × Fin 4 => Φ (some (3, i)))) := by
  rw [bigSep_cells, bigSep_univ_prod, bigSep_fin4]

/-- A device's own cells' tokens that are used. -/
def toksU (c : Dev nD) : sProp 𝕄 :=
  iprop((bigSep Finset.univ fun d : Fin 4 => dutyTok ER (barCell c) 0 d)
    ∗ (bigSep Finset.univ fun i : Fin 4 × Fin 4 => dutyTok ER (dCell c 0 i.1 i.2) 0 0) ∗ (bigSep Finset.univ fun i : Fin 4 × Fin 4 => dutyTok ER (dCell c 1 i.1 i.2) 0 0)
    ∗ (bigSep Finset.univ fun i : Fin 4 × Fin 4 => dutyTok ER (dCell c 2 i.1 i.2) 0 0) ∗ (bigSep Finset.univ fun i : Fin 4 × Fin 4 => dutyTok ER (dCell c 3 i.1 i.2) 0 0))

theorem toks_used (c : Dev nD) : toks (F := F) c ⊢ toksU c := by
  have h (a : Fin 4) : (bigSep Finset.univ fun i : Fin 4 × Fin 4 => bigSep Finset.univ fun d : Fin 4 => (dutyTok ER (kcell (c, some (a, i))) 0 d : sProp 𝕄))
      ⊢ bigSep Finset.univ fun i : Fin 4 × Fin 4 => dutyTok ER (dCell c a i.1 i.2) 0 0 :=
    bigSep_mono fun i _ => bigSep_elim (Finset.mem_univ (0 : Fin 4))
  unfold toks toksU
  rw [cells_split]
  exact BI.sep_mono (BI.Entails.refl _) (BI.sep_mono (h 0) (BI.sep_mono (h 1) (BI.sep_mono (h 2) (h 3))))

theorem bar_swap (Φ : Dev nD → Dev nD → sProp 𝕄) : (bigSep Finset.univ fun c : Dev nD => bigSep Finset.univ fun d : Dev nD => Φ c d)
    = bigSep Finset.univ fun c : Dev nD => bigSep Finset.univ fun d : Dev nD => Φ d c := by
  rw [← bigSep_univ_prod (fun x : Dev nD × Dev nD => Φ x.1 x.2), ← bigSep_univ_prod (fun x : Dev nD × Dev nD => Φ x.2 x.1)]
  exact bigSep_univ_equiv (Equiv.prodComm _ _) fun x : Dev nD × Dev nD => Φ x.1 x.2

/-- Each device ends with the tokens of the units and transfers it pays. -/
theorem toks_dealt : (bigSep Finset.univ fun c : Dev nD => (toksU c : sProp 𝕄))
    ⊢ bigSep Finset.univ fun c : Dev nD => iprop((bigSep Finset.univ fun d : Dev nD => dutyTok ER (barCell d) 0 c) ∗ bigSep Finset.univ (tokP (F := F) c)) := by
  unfold toksU tokP
  simp only [bigSep_sep']
  rw [bar_swap fun c d => (dutyTok ER (barCell c) 0 d : sProp 𝕄),
    swap_fam fun c i => (dutyTok ER (dCell c 1 i.1 i.2) 0 0 : sProp 𝕄), swap_fam fun c i => (dutyTok ER (dCell c 3 i.1 i.2) 0 0 : sProp 𝕄)]

theorem pos_split (c : Dev nD) : (bigSep Finset.univ fun i : CI => (atPos ER (kcell (c, i)) 0 ∅ 0 : sProp 𝕄))
    = iprop(atPos ER (barCell c) 0 ∅ 0 ∗ bigSep Finset.univ (posP (F := F) c)) := by
  rw [cells_split]
  unfold posP
  simp only [bigSep_sep']
  rfl

theorem linear_intro (c : Dev nD) : iprop((atPos ER (barCell c) 0 ∅ 0 ∗ bigSep Finset.univ (posP (F := F) c))
      ∗ (bigSep Finset.univ fun d : Dev nD => dutyTok ER (barCell d) 0 c) ∗ bigSep Finset.univ (tokP (F := F) c))
    ⊢ linear (F := F) c := by
  unfold linear
  iintro ⟨⟨H1, H2⟩, H3, H4⟩
  isplitl [H1]; · iexact H1
  isplitl [H2]; · iexact H2
  isplitl [H3] <;> iassumption

theorem regroup :
    (bigSep Finset.univ fun c : Dev nD => iprop((bigSep Finset.univ fun i : CI => iprop(∃ κ : ℕ, cellInv ER (Rd m) κ (kcell (c, i)))) ∗ seats (F := F) c ∗ toks (F := F) c) : sProp 𝕄)
      ⊢ bigSep Finset.univ (G' m) := by
  have hs (c : Dev nD) : seats (F := F) c = iprop((atPos ER (barCell c) 0 ∅ 0 ∗ bigSep Finset.univ (posP (F := F) c)) ∗ bigSep Finset.univ fun i : CI => reached ER (kcell (c, i)) 0) := by
    unfold seats; rw [bigSep_sep', pos_split]
  rw [bigSep_sep', bigSep_sep', ← bigSep_univ_prod (fun x : Dev nD × CI => iprop(∃ κ : ℕ, cellInv ER (Rd m) κ (kcell x))),
    bigSep_congr (s := Finset.univ) (Φ := seats (F := F)) fun c _ => hs c, bigSep_sep', ← bigSep_univ_prod (fun x : Dev nD × CI => (reached ER (kcell x) 0 : sProp 𝕄))]
  iintro ⟨HI, ⟨Hat, #HR⟩, Htok⟩
  ihave HK := (BI.bigSep_exists_pi Finset.univ (fun (x : Dev nD × CI) (κ : ℕ) => (cellInv ER (Rd m) κ (kcell x) : sProp 𝕄))) $$ HI
  icases HK with ⟨%K, #HI⟩
  ihave Htok := (show (bigSep Finset.univ fun c : Dev nD => toks (F := F) c) ⊢ _ from (bigSep_mono fun c _ => toks_used c).trans (toks_dealt (F := F))) $$ Htok
  iapply (show iprop(records m K ∗ bigSep Finset.univ (linear (F := F))) ⊢ bigSep Finset.univ (G' m) from fam_mono fun c => by
    unfold G'; iintro H; iexists K; iexact H)
  isplitr
  · unfold records; isplitl; · iexact HI
    iexact HR
  · iapply (show iprop((bigSep Finset.univ fun c : Dev nD => iprop(atPos ER (barCell c) 0 ∅ 0 ∗ bigSep Finset.univ (posP (F := F) c)))
        ∗ bigSep Finset.univ fun c : Dev nD => iprop((bigSep Finset.univ fun d : Dev nD => dutyTok ER (barCell d) 0 c) ∗ bigSep Finset.univ (tokP (F := F) c)))
        ⊢ bigSep Finset.univ (linear (F := F)) from by
      rw [← bigSep_sep']
      exact bigSep_mono fun c _ => linear_intro c)
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_open m c).trans (bigSep_fupd _ _)).trans (BI.fupd_mono (regroup m))

end Cert.MoeProof

end
-- ==== Proof.Run.lean ====
/-
# The run

The launch's credits and side conditions, and the run of the kernel on the four devices.
-/
module

public import proofs.«01_k».proof.Proof.Fund
public import Idealize.ShloMosaic.Lib.Pipeline.CollectiveSegs

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch's credits -/

theorem cred_all {I : Type} [DecidableEq I] (s : Finset I) (f : I → CellTallies nD τ sig Unit) :
    (cred (∑ i ∈ s, f i) : sProp 𝕄) ⊢ bigSep s fun i => cred (f i) := by
  induction s using Finset.induction_on with
  | empty => rw [Finset.sum_empty, cred_zero, BI.bigSep_empty]; exact BI.Entails.refl _
  | insert i s hi ih =>
    rw [Finset.sum_insert hi, BI.bigSep_insert hi]
    exact (cred_add _ _).1.trans (sep_mono_right ih)

/-- What the peers owe device `c`'s landings of array `a`. -/
def TD (a : Fin 4) (c : Dev nD) : CellTallies nD τ sig Unit :=
  ∑ i : Fin 4 × Fin 4, if i.2 ≠ c then tallyAt (dCell c a i.1 i.2) () N else 0
def TB (c : Dev nD) : CellTallies nD τ sig Unit := tallyAt (barCell c) () 3

theorem sum_OD (a : Fin 4) : (∑ c : Dev nD, OD a c 0) = ∑ c : Dev nD, TD a c := by
  unfold OD TD
  rw [← Fintype.sum_prod_type' fun (c : Dev nD) (i : Fin 4 × Fin 4) => if 0 ≤ pos i ∧ i.2 ≠ c then (tallyAt (dCell i.2 a i.1 c) () N : CellTallies nD τ sig Unit) else 0,
    ← Fintype.sum_prod_type' fun (c : Dev nD) (i : Fin 4 × Fin 4) => if i.2 ≠ c then (tallyAt (dCell c a i.1 i.2) () N : CellTallies nD τ sig Unit) else 0]
  refine Fintype.sum_equiv swap _ _ fun x => ?_
  obtain ⟨c, h, k⟩ := x
  show (if 0 ≤ pos (h, k) ∧ k ≠ c then (tallyAt (dCell k a h c) () N : CellTallies nD τ sig Unit) else 0) = if c ≠ k then tallyAt (dCell k a h c) () N else 0
  by_cases e : k = c
  · rw [if_neg fun h => h.2 e, if_neg fun h => h e.symm]
  · rw [if_pos ⟨Nat.zero_le _, e⟩, if_pos fun h => e h.symm]

theorem three : ∀ d : Fin 4, ((if d ≠ 0 then 1 else 0) + (if d ≠ 1 then 1 else 0) + (if d ≠ 2 then 1 else 0) + (if d ≠ 3 then 1 else 0) : ℕ) = 3 := by decide

theorem sum_OB : (∑ c : Dev nD, OB c 0) = ∑ c : Dev nD, TB c := by
  unfold OB TB
  rw [Finset.sum_comm]
  refine Finset.sum_congr rfl fun d _ => ?_
  have e : ∀ c : Dev nD, (if 0 ≤ ord c d ∧ d ≠ c then (tallyAt (barCell d) () 1 : CellTallies nD τ sig Unit) else 0)
      = tallyAt (barCell d) () (if d ≠ c then 1 else 0) := fun c => by
    by_cases h : d = c
    · rw [if_neg fun h' => h'.2 h, if_neg fun h' => h' h, tallyAt_zero]
    · rw [if_pos ⟨Nat.zero_le _, h⟩, if_pos h]
  rw [Finset.sum_congr rfl fun c _ => e c]
  have h4 : ∀ f : Dev nD → ℕ, (∑ c : Dev nD, (tallyAt (barCell d) () (f c) : CellTallies nD τ sig Unit)) = tallyAt (barCell d) () (f 0 + f 1 + f 2 + f 3) := fun f => by
    rw [show (∑ c : Dev nD, (tallyAt (barCell d) () (f c) : CellTallies nD τ sig Unit)) = ∑ c : Fin 4, tallyAt (barCell d) () (f c) from rfl, Fin.sum_univ_four,
      tallyAt_add, tallyAt_add, tallyAt_add]
  rw [h4]
  congr 1
  exact three d

theorem creds (c : Dev nD) : (Pipeline.launchCred O₀ c : sProp 𝕄) ⊢ iprop(cred (tallyAt (barCell c) () 3) ∗ bigSep Finset.univ (credP (F := F) c)) := by
  have hD (a : Fin 4) : (Pipeline.launchCred (fun d => OD a d 0) c : sProp 𝕄) = cred (TD a c) :=
    Pipeline.launchCred_of_sum _ (TD a) (sum_OD a) (fun d g hg => by
      unfold TD at hg
      rw [Finset.sum_apply] at hg
      obtain ⟨i, -, hi⟩ := Finset.exists_ne_zero_of_sum_ne_zero hg
      by_contra hne
      apply hi
      split
      · refine Finsupp.ext fun u => ?_
        rw [tallyAt_apply, if_neg fun h => hne (congrArg Prod.fst h.1)]; rfl
      · rfl) c
  have hB : (Pipeline.launchCred (fun d => OB d 0) c : sProp 𝕄) = cred (TB c) :=
    Pipeline.launchCred_of_sum _ TB sum_OB (fun d g hg => by
      by_contra hne
      apply hg
      refine Finsupp.ext fun u => ?_
      unfold TB
      rw [tallyAt_apply, if_neg fun h => hne (congrArg Prod.fst h.1)]; rfl) c
  have e : (Pipeline.launchCred O₀ c : sProp 𝕄) = iprop((cred (TD 1 c) ∗ cred (TD 3 c)) ∗ cred (TB c)) := by
    have e1 := Pipeline.launchCred_add (Val := Elt F) (Name := ℕ) (U := UU) (Lvl := ℕ) (fun d => OD 1 d 0 + OD 3 d 0) (fun d => OB d 0) c
    have e2 := Pipeline.launchCred_add (Val := Elt F) (Name := ℕ) (U := UU) (Lvl := ℕ) (fun d => OD 1 d 0) (fun d => OD 3 d 0) c
    rw [e2, hD 1, hD 3, hB] at e1
    exact e1
  rw [e]
  iintro ⟨⟨H1, H3⟩, HB⟩
  isplitl [HB]; · unfold TB; iexact HB
  unfold TD
  ihave H1 := (cred_all (F := F) _ _) $$ H1
  ihave H3 := (cred_all (F := F) _ _) $$ H3
  iapply (show iprop((bigSep Finset.univ fun i : Fin 4 × Fin 4 => cred (if i.2 ≠ c then (tallyAt (dCell c 1 i.1 i.2) () N : CellTallies nD τ sig Unit) else 0))
      ∗ bigSep Finset.univ fun i : Fin 4 × Fin 4 => cred (if i.2 ≠ c then (tallyAt (dCell c 3 i.1 i.2) () N : CellTallies nD τ sig Unit) else 0))
      ⊢ bigSep Finset.univ (credP (F := F) c) from by
    rw [← bigSep_sep']
    refine bigSep_mono fun i _ => ?_
    unfold credP
    by_cases h : i.2 = c
    · rw [if_pos h]; exact BI.affine
    · rw [if_neg h, if_pos h, if_pos h]; exact BI.Entails.refl _)
  isplitl [H1] <;> iassumption

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start
  isplitl
  · isplitl [Hlev]; · iexact Hlev
    isplitl [H1]; · iexact H1
    isplitl [HN]; · iexact HN
    iexact HG
  · iempintro

theorem phi_first (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scrSt c) from rfl, scopedRest0_eq]
  unfold scrSt
  iintro ⟨Hs, -, Hr⟩
  isplitl [Hs] <;> iassumption

theorem phi_last (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = iprop(zeros (F := F) c ∗ scrSt c) from rfl, scopedRest0_eq, zeros_eq]
  unfold scrSt
  iintro ⟨⟨Hu, Ho⟩, Hr⟩
  isplitl [Hu]; · iexact Hu
  isplitl [Ho] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

def Ends (r : PUnit × MemSt nD τ sig (Elt F)) : Prop :=
  ∀ c : Dev nD, ∀ w : Fin cfg0.W, r.2.mem ((cfg0.win w).arr.view.loc (c : Thread nD τ)) = finalA m c w

set_option maxRecDepth 8000 in
/-- From any memory with zero counters every fair run of the kernel on the four devices ends, with the argument arrays as
they were, the result arrays holding the sums, and every counter at zero. -/
theorem run_main : θ_run defs (onTc (τ := τ) (main (F := F))) (s₀ m ρ) (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi_first m) (hout := phi_last m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays end as they were. -/
theorem finalA_in (c : Dev nD) : (finalA m c (0 : Fin 6) = m ((c : Thread nD τ).loc main_arg0) ∧ finalA m c (1 : Fin 6) = m ((c : Thread nD τ).loc main_arg1))
    ∧ finalA m c (2 : Fin 6) = m ((c : Thread nD τ).loc main_arg2) ∧ finalA m c (3 : Fin 6) = m ((c : Thread nD τ).loc main_arg3) ∧ finalA m c (4 : Fin 6) = m ((c : Thread nD τ).loc main_arg4) :=
  ⟨⟨(dats m 0 c).arrAt_in (0 : Fin 6) rfl _, (dats m 0 c).arrAt_in (1 : Fin 6) rfl _⟩, (dats m 0 c).arrAt_in (2 : Fin 6) rfl _, (dats m 0 c).arrAt_in (3 : Fin 6) rfl _,
    (dats m 0 c).arrAt_in (4 : Fin 6) rfl _⟩

end Cert.MoeProof

end
-- ==== Proof.Same.lean ====
/-
# One program text

The kernel as printed and the kernel as idealized are the same program; a run of one is a run of the other.
-/
module

public import proofs.«01_k».proof.Defs
public import proofs.«01_k».proof.Proof.Gen.Kernel
public import proofs.«01_k».proof.Proof.Gen.KernelIdeal

@[expose] public section

noncomputable section

namespace Cert.MoeProof

open Idealize.ShloMosaic Idealize.SL.Sem

variable {F : FTy → Type} [FloatOps F]

set_option maxRecDepth 20000 in
set_option maxHeartbeats 2000000 in
theorem body_eq : Cert.Kernel.cc0_body (F := F) = Cert.KernelIdeal.cc0_body := rfl

theorem bodies_eq : Cert.Kernel.defs₀ (F := F) = Cert.KernelIdeal.defs₀ := by
  unfold Cert.Kernel.defs₀ Cert.KernelIdeal.defs₀
  rw [body_eq]
  congr 1
  funext l x
  match l, x with
  | 0, (t, s) => rfl
  | ⟨_ + 1, h⟩, _ => exact absurd h (Nat.not_lt.2 (Nat.le_add_left _ _))

/-- The two programs' tables of bodies agree. -/
theorem defs_eq : Cert.Kernel.defs (F := F) = Cert.KernelIdeal.defs := congrArg (Pipeline.defs Cert.KernelIdeal.pcfgs) bodies_eq

/-- The two programs have the same runs. -/
theorem runs_eq : θ_run (Cert.Kernel.defs (F := F)) (onTc (τ := Cert.Kernel.τ) Cert.Kernel.main) = θ_run (Cert.KernelIdeal.defs (F := F)) (onTc (τ := Cert.KernelIdeal.τ) Cert.KernelIdeal.main) :=
  congrArg (fun D => θ_run D (onTc (τ := Cert.KernelIdeal.τ) (Cert.KernelIdeal.main (F := F)))) defs_eq

end Cert.MoeProof

end
-- ==== Proof.ValueLaws.lean ====
/-
# The layer's arithmetic over the extended reals

One row of the tokens against one output column: what the reference adds up, what one device adds up, and that the
four devices' sums are the reference's.
-/
module

public import Idealize.ShloMosaic.Lib.Pointwise

@[expose] public section

noncomputable section

namespace Cert.MoeProof

open Idealize.ShloMosaic

/-! ## Words -/

/-- A choice on equality of words is a choice on the equality. -/
theorem choose_eq {α : Type} {n : ℕ} (a b : BitVec n) (x y : α) :
    Scalar.select (IntOp.cmpi .eq a b) x y = if a = b then x else y := by
  by_cases h : a = b
  · subst h; simp [Scalar.select, IntOp.cmpi]
  · have hb : (a == b) = false := beq_false_of_ne h
    simp [Scalar.select, IntOp.cmpi, h, hb]

/-- The numbers of the experts are different words. -/
theorem expert_inj (a b : Fin 16) (h : BitVec.ofNat 32 a.val = BitVec.ofNat 32 b.val) : a = b := by
  have e := congrArg BitVec.toNat h
  simp only [BitVec.toNat_ofNat] at e
  apply Fin.ext
  omega

/-! ## Constants -/

/-- The quarter the kernel scales the tokens with. -/
theorem quarter_bits : Ideal.ofBits .bf16 0x3E80#16 = (((1 / 4 : ℝ) : ℝ) : EReal) := by
  simp [Ideal.ofBits, Ideal.ieee]
  rw [← EReal.coe_mul]
  norm_num

theorem bot_bits : Ideal.ofBits .f32 0xFF800000#32 = (⊥ : EReal) := by
  simp [Ideal.ofBits, Ideal.ieee]

theorem top_bits : Ideal.ofBits .bf16 0x7F80#16 = (⊤ : EReal) := by
  simp [Ideal.ofBits, Ideal.ieee]

/-! ## Sums -/

/-- Four quarters of an extended real are the whole, the infinities included. -/
theorem four_quarters (a : EReal) :
    (∑ _d : Fin 4, a * (((1 / 4 : ℝ) : ℝ) : EReal)) = a := by
  have hq : (0 : ℝ) < 1 / 4 := by norm_num
  rw [Fin.sum_univ_four]
  induction a using EReal.rec with
  | bot => rw [EReal.bot_mul_coe_of_pos hq]; rfl
  | top => rw [EReal.top_mul_coe_of_pos hq]; rfl
  | coe r =>
    rw [← EReal.coe_mul, ← EReal.coe_add, ← EReal.coe_add, ← EReal.coe_add]
    congr 1
    ring

/-- The four devices' quarters of the shared expert add up to it. -/
theorem shared_sum {n : ℕ} (x w : Fin n → EReal) :
    (∑ _d : Fin 4, ∑ k, (x k * (((1 / 4 : ℝ) : ℝ) : EReal)) * w k) = ∑ k, x k * w k := by
  rw [Finset.sum_comm]
  refine Finset.sum_congr rfl fun k _ => ?_
  refine Eq.trans (Finset.sum_congr rfl fun d _ => ?_) (four_quarters (x k * w k))
  rw [mul_right_comm]

/-- A factor that is a nonnegative real comes out of a sum. -/
theorem scale_sum {n : ℕ} (s : EReal) (h0 : 0 ≤ s) (ht : s ≠ ⊤) (x w : Fin n → EReal) :
    (∑ k, (x k * s) * w k) = s * ∑ k, x k * w k := by
  have key : ∀ S : Finset (Fin n), (∑ k ∈ S, (x k * s) * w k) = s * ∑ k ∈ S, x k * w k := by
    intro S
    induction S using Finset.induction_on with
    | empty => simp
    | insert a S ha ih =>
      rw [Finset.sum_insert ha, Finset.sum_insert ha, ih, EReal.left_distrib_of_nonneg_of_ne_top h0 ht]
      congr 1
      rw [mul_comm (x a) s, mul_assoc]
  exact key _

/-- Adding sixteen terms to a value one after the other. -/
theorem chain_sum (a : EReal) (T : Fin 16 → EReal) :
    a + T 0 + T 1 + T 2 + T 3 + T 4 + T 5 + T 6 + T 7 + T 8 + T 9 + T 10 + T 11 + T 12 + T 13 + T 14 + T 15
      = a + ∑ e, T e := by
  simp only [Fin.sum_univ_castSucc, Fin.sum_univ_zero, add_assoc, zero_add]
  rfl

/-- Expert `j` of device `d` among the sixteen. -/
def gexp (d j : Fin 4) : Fin 16 := ⟨4 * d.val + j.val, by omega⟩

/-- Four experts on each of four devices are the sixteen experts. -/
theorem expert_sum (T : Fin 16 → EReal) : (∑ d : Fin 4, ∑ j : Fin 4, T (gexp d j)) = ∑ e, T e := by
  have h : (∑ p : Fin 4 × Fin 4, T (finProdFinEquiv p)) = ∑ e : Fin (4 * 4), T e :=
    Equiv.sum_comp (finProdFinEquiv (m := 4) (n := 4)) T
  rw [Fintype.sum_prod_type] at h
  refine Eq.trans (Finset.sum_congr rfl fun d _ => Finset.sum_congr rfl fun j _ => ?_) h
  congr 1
  apply Fin.ext
  show 4 * d.val + j.val = j.val + 4 * d.val
  omega

/-! ## The router -/

/-- The probability of expert `e` given the sixteen scores of a row. -/
def prob (s : Fin 16 → EReal) (e : Fin 16) : EReal :=
  Ideal.div (Ideal.exp (s e - Finset.fold max (Ideal.ofBits .f32 0xFF800000#32) s Finset.univ))
    (∑ e', Ideal.exp (s e' - Finset.fold max (Ideal.ofBits .f32 0xFF800000#32) s Finset.univ))

/-- A sum of real values is real. -/
theorem real_sum {n : ℕ} (f : Fin n → EReal) (h : ∀ k, ∃ r : ℝ, f k = (r : EReal)) : ∃ r : ℝ, (∑ k, f k) = (r : EReal) := by
  choose g hg using h
  refine ⟨∑ k, g k, ?_⟩
  rw [Finset.sum_congr rfl fun k _ => hg k]
  have key : ∀ S : Finset (Fin n), (∑ k ∈ S, ((g k : ℝ) : EReal)) = ((∑ k ∈ S, g k : ℝ) : EReal) := by
    intro S
    induction S using Finset.induction_on with
    | empty => simp
    | insert a S ha ih => rw [Finset.sum_insert ha, Finset.sum_insert ha, ih, EReal.coe_add]
  exact key _

/-- Real scores give probabilities that are nonnegative reals. -/
theorem prob_real (s : Fin 16 → EReal) (h : ∀ e, ∃ r : ℝ, s e = (r : EReal)) (e : Fin 16) : 0 ≤ prob s e ∧ prob s e ≠ ⊤ := by
  choose g hg using h
  have hlt : Finset.fold max (Ideal.ofBits .f32 0xFF800000#32) s Finset.univ < ⊤ := by
    rw [Finset.fold_max_lt, bot_bits]
    exact ⟨bot_lt_top, fun x _ => by rw [hg]; exact EReal.coe_lt_top _⟩
  have hgt : ⊥ < Finset.fold max (Ideal.ofBits .f32 0xFF800000#32) s Finset.univ := by
    rw [Finset.lt_fold_max]
    exact Or.inr ⟨0, Finset.mem_univ _, by rw [hg]; exact EReal.bot_lt_coe _⟩
  obtain ⟨M, hM⟩ : ∃ M : ℝ, Finset.fold max (Ideal.ofBits .f32 0xFF800000#32) s Finset.univ = (M : EReal) :=
    ⟨_, (EReal.coe_toReal hlt.ne hgt.ne').symm⟩
  have he : ∀ a, Ideal.exp (s a - (M : EReal)) = ((Real.exp (g a - M) : ℝ) : EReal) := by
    intro a
    rw [hg, ← EReal.coe_sub]
    rfl
  have hS : (∑ a, Ideal.exp (s a - (M : EReal))) = ((∑ a, Real.exp (g a - M) : ℝ) : EReal) := by
    rw [Finset.sum_congr rfl fun a _ => he a]
    simp only [Fin.sum_univ_castSucc, Fin.sum_univ_zero, EReal.coe_add, EReal.coe_zero]
  have hpos : (0 : ℝ) < ∑ a : Fin 16, Real.exp (g a - M) := Finset.sum_pos (fun a _ => Real.exp_pos _) ⟨0, Finset.mem_univ _⟩
  have hp : prob s e = ((Real.exp (g e - M) * (∑ a, Real.exp (g a - M))⁻¹ : ℝ) : EReal) := by
    unfold prob
    rw [hM, hS, he]
    unfold Ideal.div
    rw [if_neg (by exact_mod_cast hpos.ne'), EReal.coe_mul, EReal.coe_inv]
  rw [hp]
  exact ⟨by exact_mod_cast (by positivity), EReal.coe_ne_top _⟩

/-! ## The layer -/

/-- One output element: the shared expert, and of the sixteen experts the one the row is routed to, scaled with its probability. -/
def moe (x : Fin 256 → EReal) (s : Fin 16 → EReal) (ix : BitVec 32) (W : Fin 16 → Fin 256 → EReal) (ws : Fin 256 → EReal) : EReal :=
  (∑ k, x k * ws k) + ∑ e, if ix = BitVec.ofNat 32 e.val then prob s e * ∑ k, x k * W e k else 0

/-- The probability the kernel picks for a row: the one at the row's expert, or zero where there is none. -/
def picked (s : Fin 16 → EReal) (ix : BitVec 32) : EReal := ∑ e : Fin 16, if BitVec.ofNat 32 e.val = ix then prob s e else 0

theorem picked_at (s : Fin 16 → EReal) (e : Fin 16) : picked s (BitVec.ofNat 32 e.val) = prob s e := by
  unfold picked
  rw [Finset.sum_eq_single e (fun b _ hb => if_neg fun h => hb (expert_inj b e h)) fun h => absurd (Finset.mem_univ e) h, if_pos rfl]

/-- What device `d` adds up for one output element. -/
def local4 (x : Fin 256 → EReal) (s : Fin 16 → EReal) (ix : BitVec 32) (W : Fin 16 → Fin 256 → EReal) (ws : Fin 256 → EReal) (d : Fin 4) : EReal :=
  (∑ k, (x k * (((1 / 4 : ℝ) : ℝ) : EReal)) * ws k)
    + ∑ j : Fin 4, ∑ k, (x k * (if ix = BitVec.ofNat 32 (gexp d j).val then picked s ix else 0)) * W (gexp d j) k

/-- The four devices' sums add up to the layer's output, where the scores are real. -/
theorem locals_sum (x : Fin 256 → EReal) (s : Fin 16 → EReal) (hs : ∀ e, ∃ r : ℝ, s e = (r : EReal)) (ix : BitVec 32)
    (W : Fin 16 → Fin 256 → EReal) (ws : Fin 256 → EReal) : (∑ d : Fin 4, local4 x s ix W ws d) = moe x s ix W ws := by
  unfold local4 moe
  rw [Finset.sum_add_distrib, shared_sum, expert_sum fun e => ∑ k, (x k * (if ix = BitVec.ofNat 32 e.val then picked s ix else 0)) * W e k]
  congr 1
  refine Finset.sum_congr rfl fun e _ => ?_
  by_cases h : ix = BitVec.ofNat 32 e.val
  · subst h
    simp only [if_true, picked_at]
    exact scale_sum _ (prob_real s hs e).1 (prob_real s hs e).2 _ _
  · simp only [if_neg h, mul_zero, zero_mul, Finset.sum_const_zero]

end Cert.MoeProof

end
-- ==== Proof.ValueKernel.lean ====
/-
# The kernel's result at an index

Every element of the result every device stores is the sum over the devices of their partial products, and each of
these is what a device adds up for one output element.
-/
module

public import proofs.«01_k».proof.Proof.Run
public import proofs.«01_k».proof.Proof.ValueLaws
public import Idealize.ShloMosaic.Lib.Tactic.CleanTypes

@[expose] public section

set_option maxRecDepth 16384

noncomputable section

namespace Cert.MoeProof

open Cert.KernelIdeal Cert.KernelIdeal.Gen
open Idealize.ShloMosaic

/-! ## The payloads -/

/-- The number of expert `j` of device `c`, as the kernel computes it. -/
theorem word_at (c j : Fin 4) :
    Scalar.addi (Scalar.muli (vdev c) 4#32) (BitVec.ofNat 32 j.val) = BitVec.ofNat 32 (gexp c j).val := by
  revert c j; decide

/-- The sixteen scores of row `i`. -/
def scoreK (x : Vec Ideal S1024x256 .bf16) (w : Vec Ideal S256x16 .bf16) (i : Fin 1024) (e : Fin 16) : EReal :=
  ∑ k : Fin 256, x (ix2 i k) * w (ix2 k e)

theorem pay2_at (x : Vec Ideal S1024x256 .bf16) (w : Vec Ideal S256x16 .bf16) (i : Fin 1024) (e : Fin 16) :
    k0_pay2 (F := Ideal) x w (ix2 i e) = prob (scoreK x w i) e := by
  pointwise [k0_pay2, k0_pay1]
  rfl

theorem pay4_at (x : Vec Ideal S1024x256 .bf16) (w : Vec Ideal S256x16 .bf16) (ix : Vec Ideal S1024x1 .i32) (i : Fin 1024) :
    k0_pay4 (F := Ideal) (k0_pay2 (F := Ideal) x w) ix (ix2 i 0) = picked (scoreK x w i) (ix (ix2 i 0)) := by
  pointwise [k0_pay4, k0_pay3]
  simp only [choose_eq, pay2_at]
  rfl

variable (m : (ℓ : Loc nD τ sig) → Buf (Elt Ideal) ℓ)

/-- The factor of expert `j` of device `c` in row `i`. -/
def factor (c j : Fin 4) (i : Fin 1024) : EReal :=
  if in2 m c (ix2 i 0) = BitVec.ofNat 32 (gexp c j).val then picked (scoreK (in0 m c) (in1 m c) i) (in2 m c (ix2 i 0)) else 0

/-- The left operand's first block is a quarter of the tokens. -/
theorem xs_shared (c : Fin 4) (i : Fin 1024) (k : Fin 256) :
    xsv m c (ix2 i ⟨k.val, by omega⟩) = in0 m c (ix2 i k) * (((1 / 4 : ℝ) : ℝ) : EReal) := by
  pointwise [xsv, k0_pay9, k0_pay5, k0_pay1]
  simp only [k.isLt, dif_pos, quarter_bits]

/-- The left operand's other blocks are the tokens scaled with the experts' factors. -/
theorem xs_expert (c j : Fin 4) (i : Fin 1024) (k : Fin 256) :
    xsv m c (ix2 i ⟨256 * (j.val + 1) + k.val, by omega⟩) = in0 m c (ix2 i k) * factor m c j i := by
  have hp : k0_pay4 (probs m c) (in2 m c) (ix2 i 0) = picked (scoreK (in0 m c) (in1 m c) i) (in2 m c (ix2 i 0)) :=
    pay4_at (in0 m c) (in1 m c) (in2 m c) i
  pointwise [xsv, k0_pay9, k0_pay7, k0_pay8, k0_pay5, k0_pay3, k0_pay1]
  have w0 : Scalar.addi (Scalar.muli (vdev c) 4#32) 0#32 = BitVec.ofNat 32 (gexp c 0).val := word_at c 0
  have w1 : Scalar.addi (Scalar.muli (vdev c) 4#32) 1#32 = BitVec.ofNat 32 (gexp c 1).val := word_at c 1
  have w2 : Scalar.addi (Scalar.muli (vdev c) 4#32) 2#32 = BitVec.ofNat 32 (gexp c 2).val := word_at c 2
  have w3 : Scalar.addi (Scalar.muli (vdev c) 4#32) 3#32 = BitVec.ofNat 32 (gexp c 3).val := word_at c 3
  unfold factor
  simp only [choose_eq, hp, w0, w1, w2, w3, mul_ite, mul_zero]
  have hk := k.isLt
  have e : ∀ (n : ℕ) (h : n < 256) (hn : n = k.val), in0 m c (ix2 i ⟨n, h⟩) = in0 m c (ix2 i k) := by
    intro n h hn; subst hn; rfl
  match j with
  | 0 =>
    rw [dif_neg (by simp), dif_pos (by simp), e]
    simp
  | 1 =>
    rw [dif_neg (by simp; omega), dif_neg (by simp; omega), dif_pos (by simp; omega)]
    rw [e]
    simp; omega
  | 2 =>
    rw [dif_neg (by simp; omega), dif_neg (by simp; omega), dif_neg (by simp; omega), dif_pos (by simp; omega)]
    rw [e]
    simp; omega
  | 3 =>
    rw [dif_neg (by simp; omega), dif_neg (by simp; omega), dif_neg (by simp; omega), dif_neg (by simp; omega)]
    rw [e]
    simp; omega

/-- The right operand's first block is the shared expert. -/
theorem ws_shared (c : Fin 4) (k : Fin 256) (b : Fin 512) :
    wst m c (ix2 ⟨k.val, by omega⟩ b) = in4 m c (ix2 k b) := by
  pointwise [wst, k0_pay6]

theorem ew_at (c j : Fin 4) (k : Fin 256) (b : Fin 512) : ewAt m c j (ix3 0 k b) = in3 m c (ix3 j k b) := by
  show in3 m c _ = in3 m c _
  congr 1
  funext a
  fin_cases a
  all_goals (apply Fin.ext; simp)

/-- The right operand's other blocks are the device's experts. -/
theorem ws_expert (c j : Fin 4) (k : Fin 256) (b : Fin 512) :
    wst m c (ix2 ⟨256 * (j.val + 1) + k.val, by omega⟩ b) = in3 m c (ix3 j k b) := by
  rw [← ew_at]
  pointwise [wst, k0_pay6]
  have hk := k.isLt
  have e : ∀ (q : Fin 4) (n : ℕ) (h : n < 256) (hn : n = k.val), ewAt m c q (ix3 0 ⟨n, h⟩ b) = ewAt m c q (ix3 0 k b) := by
    intro q n h hn; subst hn; rfl
  match j with
  | 0 =>
    rw [dif_neg (by simp), dif_pos (by simp), e]
    simp
  | 1 =>
    rw [dif_neg (by simp; omega), dif_neg (by simp; omega), dif_pos (by simp; omega)]
    rw [e]
    simp; omega
  | 2 =>
    rw [dif_neg (by simp; omega), dif_neg (by simp; omega), dif_neg (by simp; omega), dif_pos (by simp; omega)]
    rw [e]
    simp; omega
  | 3 =>
    rw [dif_neg (by simp; omega), dif_neg (by simp; omega), dif_neg (by simp; omega), dif_neg (by simp; omega)]
    rw [e]
    simp; omega

/-- A sum over the stacked axis, block by block. -/
theorem stack_sum (f : Fin 1280 → EReal) :
    (∑ t, f t) = (∑ k : Fin 256, f ⟨k.val, by omega⟩) + ∑ j : Fin 4, ∑ k : Fin 256, f ⟨256 * (j.val + 1) + k.val, by omega⟩ := by
  have h : (∑ p : Fin 5 × Fin 256, f (finProdFinEquiv p)) = ∑ t : Fin (5 * 256), f t :=
    Equiv.sum_comp (finProdFinEquiv (m := 5) (n := 256)) f
  rw [Fintype.sum_prod_type, Fin.sum_univ_succ] at h
  refine Eq.trans h.symm ?_
  refine congrArg₂ (· + ·) (Finset.sum_congr rfl fun k _ => ?_) (Finset.sum_congr rfl fun j _ => Finset.sum_congr rfl fun k _ => ?_)
  · rfl
  · congr 1
    apply Fin.ext
    show k.val + 256 * (j.val + 1) = 256 * (j.val + 1) + k.val
    omega

/-- The rows of a block of the left operand. -/
theorem rows_at (X : FVec Ideal S1024x1280 .bf16) (k h : Fin 4) (r : Fin 64) (t : Fin 1280) :
    (xsM.access (rX k h)).read (Elt Ideal) X (ix2 r t) = X (ix2 ⟨256 * k.val + 64 * h.val + r.val, by omega⟩ t) := by
  show X ((rX k h).emb (ix2 r t)) = _
  congr 1
  funext q
  match q with
  | ⟨0, _⟩ =>
    apply Fin.ext
    show 256 * k.val + 64 * h.val + 1 * r.val = 256 * k.val + 64 * h.val + r.val
    omega
  | ⟨1, _⟩ =>
    apply Fin.ext
    show 0 + 1 * t.val = t.val
    omega

theorem pay10_at (W : FVec Ideal S1280x512 .bf16) (X : Vec Ideal S64x1280 .bf16) (r : Fin 64) (b : Fin 512) :
    k0_pay10 (F := Ideal) W X (ix2 r b) = ∑ t : Fin 1280, X (ix2 r t) * W (ix2 t b) := by
  pointwise [k0_pay10]

theorem jI_at (a : Fin 1024) (b : Fin 512) : jI (ix2 a b) = ix2 ⟨a.val % 64, Nat.mod_lt _ (by decide)⟩ b := by
  funext q
  match q with
  | ⟨0, _⟩ => rfl
  | ⟨1, _⟩ => rfl

/-- A partial product at a row of its block. -/
theorem part_row (d k h : Fin 4) (r : Fin 64) (b : Fin 512) :
    part m d k h (ix2 r b) = (∑ t : Fin 1280, xsv m d (ix2 ⟨256 * k.val + 64 * h.val + r.val, by omega⟩ t) * wst m d (ix2 t b) : EReal) := by
  unfold part
  rw [pay10_at]
  refine Finset.sum_congr rfl fun t _ => ?_
  unfold xrows
  rw [rows_at]

/-- The row of a place in its block. -/
theorem row_back (a : Fin 1024) (b : Fin 512) (h : 256 * (kI (ix2 a b)).val + 64 * (hI (ix2 a b)).val + a.val % 64 < 1024) :
    (⟨256 * (kI (ix2 a b)).val + 64 * (hI (ix2 a b)).val + a.val % 64, h⟩ : Fin 1024) = a := by
  apply Fin.ext
  show 256 * (a.val / 256) + 64 * (a.val % 256 / 64) + a.val % 64 = a.val
  omega

/-- A partial product at a place of the result. -/
theorem part_at (d : Fin 4) (a : Fin 1024) (b : Fin 512) :
    part m d (kI (ix2 a b)) (hI (ix2 a b)) (jI (ix2 a b)) = (∑ t : Fin 1280, xsv m d (ix2 a t) * wst m d (ix2 t b) : EReal) := by
  rw [jI_at, part_row]
  refine Finset.sum_congr rfl fun t _ => ?_
  rw [row_back a b]

/-- The sum over the devices, in whatever order a device adds. -/
theorem red_at (c h : Fin 4) (i : S64x512.Idx) : red m c h i = ∑ d : Fin 4, part m d c h i := by
  rw [Fin.sum_univ_four]
  have hx : ∀ j, extf .f32 (partB m j c h) bitsLt_bf16_f32 = part m j c h := fun j => rfl
  have ha : ∀ (u v : FVec Ideal S64x512 .f32), addf u v i = (u i + v i : EReal) := fun u v => rfl
  unfold red
  fin_cases c <;> simp [acc, hx, ha] <;> abel

theorem outQ_at (c k h : Fin 4) (i : S64x512.Idx) : outQ m c k h i = ∑ d : Fin 4, part m d k h i := by
  unfold outQ
  by_cases e : k = c
  · subst e
    rw [if_pos rfl, red_at]
  · rw [if_neg e]
    exact red_at m k h i

/-- The result of device `c` at row `a` and column `b`. -/
theorem out_at (c : Fin 4) (a : Fin 1024) (b : Fin 512) :
    outF m c (ix2 a b) = ∑ d : Fin 4, ∑ t : Fin 1280, xsv m d (ix2 a t) * wst m d (ix2 t b) := by
  refine (outQ_at m c _ _ _).trans (Finset.sum_congr rfl fun d _ => part_at m d a b)

/-- A partial product in terms of the device's inputs. -/
theorem partial_at (d : Fin 4) (a : Fin 1024) (b : Fin 512) :
    (∑ t : Fin 1280, xsv m d (ix2 a t) * wst m d (ix2 t b) : EReal)
      = (∑ k : Fin 256, (in0 m d (ix2 a k) * (((1 / 4 : ℝ) : ℝ) : EReal)) * in4 m d (ix2 k b))
        + ∑ j : Fin 4, ∑ k : Fin 256, (in0 m d (ix2 a k) * factor m d j a) * in3 m d (ix3 j k b) := by
  rw [stack_sum]
  simp only [xs_shared, xs_expert, ws_shared, ws_expert]

end Cert.MoeProof

end
-- ==== Proof.ValueRef.lean ====
/-
# The reference's result at an index

Every element of the reference's result is the layer's output for its row and column.
-/
module

public import proofs.«01_k».proof.Proof.Gen.ReferenceIdeal.Run
public import proofs.«01_k».proof.Proof.ValueLaws
public import Idealize.ShloMosaic.Lib.Tactic.CleanTypes

@[expose] public section

set_option maxRecDepth 16384

noncomputable section

namespace Cert.MoeProof.Ref

open Cert.ReferenceIdeal Cert.ReferenceIdeal.Gen Cert.ReferenceIdeal.Value
open Idealize.ShloMosaic

/-- The sixteen scores of row `i`. -/
def scoreR (x : Vec Ideal S1024x256 .bf16) (w : Vec Ideal S256x16 .bf16) (i : Fin 1024) (e : Fin 16) : EReal :=
  ∑ k : Fin 256, x (ix2 i k) * w (ix2 k e)

/-- The layer's output over whole arrays. -/
def layer (x : Vec Ideal S1024x256 .bf16) (w : Vec Ideal S256x16 .bf16) (ix : Vec Ideal S1024x1 .i32)
    (W : Vec Ideal S16x256x512 .bf16) (ws : Vec Ideal S256x512 .bf16) (i : Fin 1024) (j : Fin 512) : EReal :=
  moe (fun k => x (ix2 i k)) (scoreR x w i) (ix (ix2 i 0)) (fun e k => W (ix3 e k j)) (fun k => ws (ix2 k j))

variable (V0 : Valuation τ sig (Elt Ideal))

/-- The reference's probabilities. -/
theorem prob_at (i : Fin 1024) (e : Fin 16) :
    res_main_v11 V0 (ix2 i e) = prob (scoreR (V0 (Proc.devRef .tc main_arg0)) (V0 (Proc.devRef .tc main_arg1)) i) e := by
  unfold res_main_v11 res_main_v7 res_main_v2 res_main_v0
  clean_types
  pointwise
  rfl

/-- The zero of a masked term. -/
theorem zero_bits : (id (constant S_ FTy.f32 0#32) : FVec Ideal S_ .f32) ix0 = (0 : EReal) := Ideal.ofBits_zero_f32

/-- The five arguments, the probabilities and the two partial sums, at their shapes. -/
abbrev ax : Vec Ideal S1024x256 .bf16 := V0 (Proc.devRef .tc main_arg0)
abbrev ar : Vec Ideal S256x16 .bf16 := V0 (Proc.devRef .tc main_arg1)
abbrev ai : Vec Ideal S1024x1 .i32 := V0 (Proc.devRef .tc main_arg2)
abbrev aw : Vec Ideal S16x256x512 .bf16 := V0 (Proc.devRef .tc main_arg3)
abbrev ash : Vec Ideal S256x512 .bf16 := V0 (Proc.devRef .tc main_arg4)
abbrev ap : Vec Ideal S1024x16 .f32 := res_main_v11 V0
abbrev sum6 : Vec Ideal S1024x512 .f32 := res_main_v79 V0
abbrev sum12 : Vec Ideal S1024x512 .f32 := res_main_v145 V0

/-- The term of expert `e` in row `i` and column `j`. -/
def term (i : Fin 1024) (j : Fin 512) (e : Fin 16) : EReal :=
  if ai V0 (ix2 i 0) = BitVec.ofNat 32 e.val then
    ap V0 (ix2 i e) * ∑ k : Fin 256, ax V0 (ix2 i k) * aw V0 (ix3 e k j)
  else 0

/-- The shared expert and the first six experts. -/
theorem first_at (i : Fin 1024) (j : Fin 512) :
    sum6 V0 (ix2 i j) = (∑ k : Fin 256, ax V0 (ix2 i k) * ash V0 (ix2 k j))
      + term V0 i j 0 + term V0 i j 1 + term V0 i j 2 + term V0 i j 3 + term V0 i j 4 + term V0 i j 5 := by
  unfold sum6 res_main_v79 res_main_v0
  clean_types
  pointwise
  simp only [choose_eq, zero_bits]
  rfl

/-- The next six experts. -/
theorem second_at (i : Fin 1024) (j : Fin 512) :
    sum12 V0 (ix2 i j) = sum6 V0 (ix2 i j)
      + term V0 i j 6 + term V0 i j 7 + term V0 i j 8 + term V0 i j 9 + term V0 i j 10 + term V0 i j 11 := by
  unfold sum12 res_main_v145 res_main_v0
  clean_types
  pointwise
  simp only [choose_eq, zero_bits]
  rfl

/-- All terms together are the layer's output. -/
theorem terms_sum (i : Fin 1024) (j : Fin 512) :
    sum12 V0 (ix2 i j) + term V0 i j 12 + term V0 i j 13 + term V0 i j 14 + term V0 i j 15
      = layer (ax V0) (ar V0) (ai V0) (aw V0) (ash V0) i j := by
  rw [second_at, first_at, chain_sum]
  unfold layer moe
  congr 1
  refine Finset.sum_congr rfl fun e _ => ?_
  unfold term
  rw [show ap V0 (ix2 i e) = prob (scoreR (ax V0) (ar V0) i) e from prob_at V0 i e]

variable (m : (ℓ : Loc nD τ sig) → Buf (Elt Ideal) ℓ) (ρ : Dev nD → PrngReg)

/-- The layer's output over the reference's arguments. -/
def resultR : Buf (Elt Ideal) (((0 : Dev nD).tc : Thread nD τ).loc main_v189) := fun i : S1024x512.Idx =>
  layer (m (((0 : Dev nD).tc : Thread nD τ).loc main_arg0)) (m (((0 : Dev nD).tc : Thread nD τ).loc main_arg1))
    (m (((0 : Dev nD).tc : Thread nD τ).loc main_arg2)) (m (((0 : Dev nD).tc : Thread nD τ).loc main_arg3))
    (m (((0 : Dev nD).tc : Thread nD τ).loc main_arg4)) (i 0) (i 1)

/-- The reference runs, ends with the layer's output, and leaves its arguments. -/
theorem run_layer : θ_run defs (onTc (τ := τ) (main (F := Ideal))) ⟨m, fun _ => 0, ρ⟩ fun r =>
    r.2.mem (((0 : Dev nD).tc : Thread nD τ).loc main_v189) = resultR m
    ∧ r.2.mem (((0 : Dev nD).tc : Thread nD τ).loc main_arg0) = m (((0 : Dev nD).tc : Thread nD τ).loc main_arg0)
    ∧ r.2.mem (((0 : Dev nD).tc : Thread nD τ).loc main_arg1) = m (((0 : Dev nD).tc : Thread nD τ).loc main_arg1)
    ∧ r.2.mem (((0 : Dev nD).tc : Thread nD τ).loc main_arg2) = m (((0 : Dev nD).tc : Thread nD τ).loc main_arg2)
    ∧ r.2.mem (((0 : Dev nD).tc : Thread nD τ).loc main_arg3) = m (((0 : Dev nD).tc : Thread nD τ).loc main_arg3)
    ∧ r.2.mem (((0 : Dev nD).tc : Thread nD τ).loc main_arg4) = m (((0 : Dev nD).tc : Thread nD τ).loc main_arg4) := by
  refine (θ_run _ _ _).mono (fun r h => ⟨(h 0).1.trans ?_, (h 0).2⟩) (Value.run (F := Ideal) m ρ)
  funext i
  change S1024x512.Idx at i
  obtain ⟨a, b, rfl⟩ : ∃ (a : Fin 1024) (b : Fin 512), i = ix2 a b := ⟨i 0, i 1, eq_ix2 i⟩
  have e : resultR m (ix2 a b) = layer (ax (StableHlo.launchContents m 0)) (ar (StableHlo.launchContents m 0))
    (ai (StableHlo.launchContents m 0)) (aw (StableHlo.launchContents m 0)) (ash (StableHlo.launchContents m 0)) a b := rfl
  refine Eq.trans ?_ e.symm
  refine Eq.trans ?_ (terms_sum (StableHlo.launchContents m 0) a b)
  unfold res_main_v0
  clean_types
  pointwise
  simp only [choose_eq, zero_bits]
  rfl

end Cert.MoeProof.Ref

end
-- ==== Proof.ValuePre.lean ====
/-
# The precondition at an element

Where the predicate holds, every token entry and every router weight is a real number.
-/
module

public import proofs.«01_k».proof.Pre_router_finite_KernelIdeal
public import proofs.«01_k».proof.Proof.ValueLaws
public import Idealize.ShloMosaic.Lib.ReduceAll

@[expose] public section

noncomputable section

namespace Cert.MoeProof.Pre

open Idealize.ShloMosaic
open Cert.Pre_router_finite_KernelIdeal

instance : Subsingleton S_.Idx := ⟨fun a b => funext fun k => k.elim0⟩

/-- A value whose magnitude is below infinity is real. -/
theorem real_of_abs (a : EReal) (h : max a (-a) < (⊤ : EReal)) : ∃ r : ℝ, a = (r : EReal) := by
  have h1 : a ≠ ⊤ := fun e => by subst e; simp at h
  have h2 : a ≠ ⊥ := fun e => by subst e; simp at h
  exact ⟨_, (EReal.coe_toReal h1 h2).symm⟩

/-- One element's comparison, read. -/
theorem real_of_bit (a : EReal) (h : BitVec.ofBool (decide (max a (-a) < Ideal.ofBits .bf16 0x7F80#16)) = 1#1) : ∃ r : ℝ, a = (r : EReal) := by
  rw [top_bits] at h
  by_cases hc : max a (-a) < (⊤ : EReal)
  · exact real_of_abs a hc
  · rw [decide_eq_false hc] at h
    exact absurd h (by decide)

theorem finite_of_pre [Facts] (x : FVec Ideal S1024x256 .bf16) (w : FVec Ideal S256x16 .bf16) (ix : IVec S1024x1 32)
    (W : FVec Ideal S4x256x512 .bf16) (ws : FVec Ideal S256x512 .bf16) (h : fn (F := Ideal) x w ix W ws = fun _ => 1#1) :
    (∀ i, ∃ r : ℝ, x i = (r : EReal)) ∧ ∀ i, ∃ r : ℝ, w i = (r : EReal) := by
  have h0 := congrFun h ix0
  dsimp only [fn] at h0
  obtain ⟨h1, h2⟩ := IntOp.andi_eq_one.1 h0
  refine ⟨fun i => ?_, fun i => ?_⟩
  · have e := Host.reduce_andi_all _ _ _ _ _ h1 i
    pointwise at e
    exact real_of_bit _ e
  · have e := Host.reduce_andi_all _ _ _ _ _ h2 i
    pointwise at e
    exact real_of_bit _ e

end Cert.MoeProof.Pre

end
-- ==== Proof.ValueEq.lean ====
/-
# The kernel's result is the reference's

The devices' inputs as blocks of the reference's arguments, the precondition read at an element, and the equality of the
two results.
-/
module

public import proofs.«01_k».proof.Proof.ValueKernel
public import proofs.«01_k».proof.Proof.ValueRef
public import Idealize.ShloMosaic.Lib.Pipeline.ValueKit
public import proofs.«01_k».proof.Proof.ValuePre
public import Idealize.ShloMosaic.Lib.Layout

@[expose] public section

set_option maxRecDepth 16384

noncomputable section

namespace Cert.MoeProof

open Cert.KernelIdeal Cert.KernelIdeal.Gen
open Idealize.ShloMosaic
open Idealize.ShloMosaic.TcCoe

section
variable {F : FTy → Type} [FloatOps F] (m : (ℓ : Loc nD τ sig) → Buf (Elt F) ℓ)

/-- The result array ends holding what the body left in its staging buffer. -/
theorem final_out (c : Dev nD) : finalA m c 5 = outF m c := by
  funext i
  refine ((dats m 0 c).arrAt_emb_eq_after_last 5 t0_0 (by decide +kernel) i).trans ?_
  blk_simp
  rfl

/-- Every input block is its whole argument. -/
theorem in0_eq (c : Dev nD) : in0 m c = m ((c : Thread nD τ).loc main_arg0) := by
  funext y
  have e : win0_0.index t0_0 = ![0, 0] := by decide +kernel
  unfold in0
  blk_simp [iblk]
  refine congrArg (m ((c : Thread nD τ).loc main_arg0)) ?_
  blk_ext [e]

theorem in1_eq (c : Dev nD) : in1 m c = m ((c : Thread nD τ).loc main_arg1) := by
  funext y
  have e : win0_1.index t0_0 = ![0, 0] := by decide +kernel
  unfold in1
  blk_simp [iblk]
  refine congrArg (m ((c : Thread nD τ).loc main_arg1)) ?_
  blk_ext [e]

theorem in2_eq (c : Dev nD) : in2 m c = m ((c : Thread nD τ).loc main_arg2) := by
  funext y
  have e : win0_2.index t0_0 = ![0, 0] := by decide +kernel
  unfold in2
  blk_simp [iblk]
  refine congrArg (m ((c : Thread nD τ).loc main_arg2)) ?_
  blk_ext [e]

theorem in3_eq (c : Dev nD) : in3 m c = m ((c : Thread nD τ).loc main_arg3) := by
  funext y
  have e : win0_3.index t0_0 = ![0, 0, 0] := by decide +kernel
  unfold in3
  blk_simp [iblk]
  refine congrArg (m ((c : Thread nD τ).loc main_arg3)) ?_
  blk_ext [e]

theorem in4_eq (c : Dev nD) : in4 m c = m ((c : Thread nD τ).loc main_arg4) := by
  funext y
  have e : win0_4.index t0_0 = ![0, 0] := by decide +kernel
  unfold in4
  blk_simp [iblk]
  refine congrArg (m ((c : Thread nD τ).loc main_arg4)) ?_
  blk_ext [e]

end

/-- The layer's result over the device's parts of whole arrays `x`, `w`, `ix`, `W`, `ws`: every device stores the
layer's output, where the tokens and the router's weights are real. -/
theorem out_layer (m : (ℓ : Loc nD τ sig) → Buf (Elt Ideal) ℓ) (x : Vec Ideal S1024x256 .bf16) (w : Vec Ideal S256x16 .bf16)
    (ix : Vec Ideal S1024x1 .i32) (W : Vec Ideal ⟨3, ![16, 256, 512]⟩ .bf16) (ws : Vec Ideal S256x512 .bf16)
    (h0 : ∀ c : Dev nD, in0 m c = x) (h1 : ∀ c : Dev nD, in1 m c = w) (h2 : ∀ c : Dev nD, in2 m c = ix)
    (h3 : ∀ c : Dev nD, in3 m c = Layout.block ⟨3, ![4, 256, 512]⟩ ⟨3, ![16, 256, 512]⟩ 0 4 c W) (h4 : ∀ c : Dev nD, in4 m c = ws)
    (hx : ∀ i, ∃ r : ℝ, x i = (r : EReal)) (hw : ∀ i, ∃ r : ℝ, w i = (r : EReal)) (c : Dev nD) (a : Fin 1024) (b : Fin 512) :
    outF m c (ix2 a b) = Ref.layer x w ix W ws a b := by
  have hs : ∀ e, ∃ r : ℝ, scoreK x w a e = (r : EReal) := fun e => by
    refine real_sum _ fun k => ?_
    obtain ⟨r, hr⟩ := hx (ix2 a k)
    obtain ⟨q, hq⟩ := hw (ix2 k e)
    exact ⟨r * q, by rw [hr, hq, EReal.coe_mul]⟩
  have hb : ∀ (d j : Fin 4) (k : Fin 256), in3 m d (ix3 j k b) = W (ix3 (gexp d j) k b) := by
    intro d j k
    rw [h3, Layout.block_apply]
    congr 1
    funext q
    match q with
    | ⟨0, _⟩ => apply Fin.ext; show d.val * 4 + j.val = 4 * d.val + j.val; omega
    | ⟨1, _⟩ => rfl
    | ⟨2, _⟩ => rfl
  rw [out_at]
  refine Eq.trans (Finset.sum_congr rfl fun d _ => ?_)
    (locals_sum (fun k => x (ix2 a k)) (scoreK x w a) hs (ix (ix2 a 0)) (fun e k => W (ix3 e k b)) (fun k => ws (ix2 k b)))
  rw [partial_at]
  unfold local4 factor
  simp only [h0, h1, h2, h4, hb]

end Cert.MoeProof

end
-- ==== Proof.lean ====
/-
# The certificate

`Cert.Claim`: the kernel of v07, on four devices, as printed and as idealized, and the reference each run to the end with their
arguments unchanged and every counter at zero; the idealized kernel and the reference end with equal results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.ValueEq
public import proofs.«01_k».proof.Proof.Gen.Pre_router_finite_KernelIdeal
public import proofs.«01_k».proof.Proof.Gen.Pre_router_finite_ReferenceIdeal
public import Idealize.ShloMosaic.Adequacy
public import Idealize.ShloMosaic.Init

@[expose] public section

noncomputable section

namespace Cert.Proof

open Idealize.ShloMosaic Idealize.SL.Sem

/-- Every run of the kernel at `F` ends with the arguments as they were and every counter at zero. -/
theorem frame_main {F : FTy → Type} [FloatOps F] (m : (ℓ : Loc Cert.KernelIdeal.nD Cert.KernelIdeal.τ Cert.KernelIdeal.sig) → Buf (Elt F) ℓ)
    (r : PUnit × MemSt Cert.KernelIdeal.nD Cert.KernelIdeal.τ Cert.KernelIdeal.sig (Elt F)) (h : MoeProof.Ends m r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) :=
  have e := MoeProof.finalA_in m c
  ⟨(h c 0).trans e.1.1, (h c 1).trans e.1.2, (h c 2).trans e.2.1, (h c 3).trans e.2.2.1, (h c 4).trans e.2.2.2⟩

theorem frame_ideal : Cert.quiescent_KernelIdeal := fun m ρ _ =>
  (θ_run Cert.KernelIdeal.defs _ _).mono (fun r h => ⟨frame_main m r h.1, h.2⟩) (MoeProof.run_main (F := Ideal) m ρ)

theorem frame_kernel : Cert.quiescent_Kernel := fun m ρ _ => by
  rw [MoeProof.runs_eq]
  exact (θ_run Cert.KernelIdeal.defs _ _).mono (fun r h => ⟨frame_main m r h.1, h.2⟩) (MoeProof.run_main (F := Bits) m ρ)

theorem frame_ref : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- Where the precondition holds, the kernel's devices and the reference end with the same result. -/
theorem algebraic : Cert.algebraic_KernelIdeal_ReferenceIdeal_pre_router_finite_KernelIdeal := by
  intro m g m' g' hpre hargs
  refine ⟨MoeProof.Ref.resultR m', ?_, MoeProof.Ref.run_layer m' g'⟩
  refine (θ_run Cert.KernelIdeal.defs _ _).mono (fun r h c => ⟨?_, frame_main m r h.1 c⟩) (MoeProof.run_main (F := Ideal) m g)
  refine ((h.1 c 5).trans (MoeProof.final_out m c)).trans ?_
  have hf := MoeProof.Pre.finite_of_pre _ _ _ _ _ (hpre 0)
  rw [(hargs 0).1, (hargs 0).2.1] at hf
  funext i
  obtain ⟨a, b, rfl⟩ : ∃ (a : Fin 1024) (b : Fin 512), i = ix2 a b := ⟨i 0, i 1, eq_ix2 i⟩
  exact MoeProof.out_layer m _ _ _ _ _ (fun d => (MoeProof.in0_eq m d).trans (hargs d).1) (fun d => (MoeProof.in1_eq m d).trans (hargs d).2.1)
    (fun d => (MoeProof.in2_eq m d).trans (hargs d).2.2.1) (fun d => (MoeProof.in3_eq m d).trans (hargs d).2.2.2.1)
    (fun d => (MoeProof.in4_eq m d).trans (hargs d).2.2.2.2) hf.1 hf.2 c a b

theorem claim : Cert.Claim := ⟨Cert.Kernel.Gen.facts, Cert.KernelIdeal.Gen.facts, Cert.ReferenceIdeal.Gen.facts, Cert.Pre_router_finite_KernelIdeal.Gen.facts,
  Cert.Pre_router_finite_ReferenceIdeal.Gen.facts, frame_kernel, frame_ideal, fun m ρ _ => frame_ideal m ρ trivial, frame_ref,
  fun m ρ _ => frame_ref m ρ trivial, trivial, algebraic⟩

end Cert.Proof

end
